-- ==== Defs.lean ====
def Pre_Kernel [hPre_in_tables : Cert.Pre_in_tables.Facts] (m : (ℓ : Loc Cert.Kernel.nD Cert.Kernel.τ Cert.Kernel.sig) → Buf (Elt Bits) ℓ) : Prop :=
  ∀ c : Dev Cert.Kernel.nD,
    (Cert.Pre_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_tables : Cert.Pre_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_tables [hPre_in_tables : Cert.Pre_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_tables : Cert.Pre_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_tables [hReferenceIdeal : Cert.ReferenceIdeal.Facts] [hPre_in_tables : Cert.Pre_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_tables : Cert.Pre_in_tables.Facts),
    quiescent_Kernel (hKernel := hKernel) (hPre_in_tables := hPre_in_tables)
    ∧ quiescent_KernelIdeal (hKernelIdeal := hKernelIdeal) (hPre_in_tables := hPre_in_tables)
    ∧ quiescent_ReferenceIdeal (hReferenceIdeal := hReferenceIdeal)
    ∧ quiescent_ReferenceIdeal_pre_in_tables (hReferenceIdeal := hReferenceIdeal) (hPre_in_tables := hPre_in_tables)
    ∧ preserves_Kernel_KernelIdeal
    ∧ algebraic_KernelIdeal_ReferenceIdeal (hKernelIdeal := hKernelIdeal) (hReferenceIdeal := hReferenceIdeal) (hPre_in_tables := hPre_in_tables)
-- ==== Pre_in_tables.lean ====
abbrev S16x2048x256 : Shape := ⟨3, ![16, 2048, 256]⟩
abbrev S16x2048x32 : Shape := ⟨3, ![16, 2048, 32]⟩
abbrev S16 : Shape := ⟨1, ![16]⟩
abbrev S256 : Shape := ⟨1, ![256]⟩
abbrev S24x16 : Shape := ⟨2, ![24, 16]⟩
abbrev S10x8 : Shape := ⟨2, ![10, 8]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn_part1 {F : FTy → Type} [FloatOps F] (main_arg7 : IVec S16 32) (main_v12 : IVec S_ 1) (main_v14 : IVec S16 1) (main_v15 : IVec S16 32) : IVec S_ 1 :=
  let main_v16 : IVec S16 1 := cmpi .slt main_arg7 main_v15
  let main_v17 : IVec S16 1 := andi main_v14 main_v16
  let main_c_7 : IVec S_ 1 := constantI S_ 1 1#1
  let main_v18 : IVec S_ 1 := (fun x v => Host.reduce IntOp.andi x v reducesTo_S16_S_d0 h_S_) main_v17 main_c_7
  let main_v19 : IVec S_ 1 := andi main_v12 main_v18
  main_v19

def fn {F : FTy → Type} [FloatOps F] (main_arg0 : FVec F S16x2048x256 .f32) (main_arg1 : FVec F S16x2048x32 .f32) (main_arg2 : FVec F S16x2048x32 .f32) (main_arg3 : FVec F S16x2048x32 .f32) (main_arg4 : FVec F S16x2048x32 .f32) (main_arg5 : IVec S16 32) (main_arg6 : IVec S16 32) (main_arg7 : IVec S16 32) (main_arg8 : FVec F S256 .f32) (main_arg9 : FVec F S256 .f32) (main_arg10 : FVec F S24x16 .f32) (main_arg11 : FVec F S10x8 .f32) : IVec S_ 1 :=
  let main_c : IVec S_ 32 := constantI S_ 32 0#32
  let main_v0 : IVec S16 32 := broadcastInDim S16 ![] bcast_S_S16 main_c
  let main_v1 : IVec S16 1 := cmpi .sge main_arg5 main_v0
  let main_c_0 : IVec S_ 32 := constantI S_ 32 24#32
  let main_v2 : IVec S16 32 := broadcastInDim S16 ![] bcast_S_S16 main_c_0
  let main_v3 : IVec S16 1 := cmpi .slt main_arg5 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S16 32 := broadcastInDim S16 ![] bcast_S_S16 main_c_2
  let main_v7 : IVec S16 1 := cmpi .sge main_arg6 main_v6
  let main_c_3 : IVec S_ 32 := constantI S_ 32 10#32
  let main_v8 : IVec S16 32 := broadcastInDim S16 ![] bcast_S_S16 main_c_3
  let main_v9 : IVec S16 1 := cmpi .slt main_arg6 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : IVec S_ 1 := andi main_v5 main_v11
  let main_c_5 : IVec S_ 32 := constantI S_ 32 0#32
  let main_v13 : IVec S16 32 := broadcastInDim S16 ![] bcast_S_S16 main_c_5
  let main_v14 : IVec S16 1 := cmpi .sge main_arg7 main_v13
  let main_c_6 : IVec S_ 32 := constantI S_ 32 10#32
  let main_v15 : IVec S16 32 := broadcastInDim S16 ![] bcast_S_S16 main_c_6
  fn_part1 (F := F) main_arg7 main_v12 main_v14 main_v15
-- ==== Kernel.lean ====
abbrev S16x2048x256 : Shape := ⟨3, ![16, 2048, 256]⟩
abbrev S16x2048x32 : Shape := ⟨3, ![16, 2048, 32]⟩
abbrev S16 : Shape := ⟨1, ![16]⟩
abbrev S256 : Shape := ⟨1, ![256]⟩
abbrev S24x16 : Shape := ⟨2, ![24, 16]⟩
abbrev S10x8 : Shape := ⟨2, ![10, 8]⟩
abbrev S1x256 : Shape := ⟨2, ![1, 256]⟩
abbrev S32768x256 : Shape := ⟨2, ![32768, 256]⟩
abbrev S32768x32 : Shape := ⟨2, ![32768, 32]⟩
abbrev S32768x416 : Shape := ⟨2, ![32768, 416]⟩
abbrev S2048x256 : Shape := ⟨2, ![2048, 256]⟩
abbrev S2048x32 : Shape := ⟨2, ![2048, 32]⟩
abbrev S2048x416 : Shape := ⟨2, ![2048, 416]⟩
abbrev S1 : Shape := ⟨1, ![1]⟩
abbrev S1x16 : Shape := ⟨2, ![1, 16]⟩
abbrev S1x8 : Shape := ⟨2, ![1, 8]⟩
abbrev S2048x16 : Shape := ⟨2, ![2048, 16]⟩
abbrev S2048x8 : Shape := ⟨2, ![2048, 8]⟩
abbrev S16x2048x416 : Shape := ⟨3, ![16, 2048, 416]⟩

abbrev nBuf : Space → Nat
  | .hbm => 18
  | .vmem => 16
  | .smem => 3
  | _ => 0

abbrev bufTy : (tb : Table) → Fin (tcTables nBuf tb) → BufTy
  | .hbm, ⟨0, _⟩ => ⟨S16x2048x256, .f32⟩
  | .hbm, ⟨1, _⟩ => ⟨S16x2048x32, .f32⟩
  | .hbm, ⟨2, _⟩ => ⟨S16x2048x32, .f32⟩
  | .hbm, ⟨3, _⟩ => ⟨S16x2048x32, .f32⟩
  | .hbm, ⟨4, _⟩ => ⟨S16x2048x32, .f32⟩
  | .hbm, ⟨5, _⟩ => ⟨S256, .f32⟩
  | .hbm, ⟨6, _⟩ => ⟨S256, .f32⟩
  | .hbm, ⟨7, _⟩ => ⟨S24x16, .f32⟩
  | .hbm, ⟨8, _⟩ => ⟨S10x8, .f32⟩
  | .hbm, ⟨9, _⟩ => ⟨S1x256, .f32⟩
  | .hbm, ⟨10, _⟩ => ⟨S1x256, .f32⟩
  | .hbm, ⟨11, _⟩ => ⟨S32768x256, .f32⟩
  | .hbm, ⟨12, _⟩ => ⟨S32768x32, .f32⟩
  | .hbm, ⟨13, _⟩ => ⟨S32768x32, .f32⟩
  | .hbm, ⟨14, _⟩ => ⟨S32768x32, .f32⟩
  | .hbm, ⟨15, _⟩ => ⟨S32768x32, .f32⟩
  | .hbm, ⟨16, _⟩ => ⟨S32768x416, .f32⟩
  | .hbm, ⟨17, _⟩ => ⟨S16x2048x416, .f32⟩
  | .local _ .vmem, ⟨0, _⟩ => ⟨S2048x256, .f32⟩
  | .local _ .vmem, ⟨1, _⟩ => ⟨S2048x256, .f32⟩
  | .local _ .vmem, ⟨2, _⟩ => ⟨S2048x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | .local _ .vmem, ⟨10, _⟩ => ⟨S1x256, .f32⟩
  | .local _ .vmem, ⟨11, _⟩ => ⟨S1x256, .f32⟩
  | .local _ .vmem, ⟨12, _⟩ => ⟨S24x16, .f32⟩
  | .local _ .vmem, ⟨13, _⟩ => ⟨S10x8, .f32⟩
  | .local _ .vmem, ⟨14, _⟩ => ⟨S2048x416, .f32⟩
  | .local _ .vmem, ⟨15, _⟩ => ⟨S2048x416, .f32⟩
  | .local _ .smem, ⟨0, _⟩ => ⟨S16, .i32⟩
  | .local _ .smem, ⟨1, _⟩ => ⟨S16, .i32⟩
  | .local _ .smem, ⟨2, _⟩ => ⟨S16, .i32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_arg5 : Ref sig .tc := ⟨.smem, 0, rfl⟩
abbrev main_arg6 : Ref sig .tc := ⟨.smem, 1, rfl⟩
abbrev main_arg7 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

abbrev pre0 : Pipeline.Prefetch sig := ⟨3, ![main_arg5.idx, main_arg6.idx, main_arg7.idx], fun | 0 => main_arg5.names | 1 => main_arg6.names | 2 => main_arg7.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v29 : Index := Scalar.indexCast v16
  ![v29.toNat]
def k0_off2 (v30 : BitVec 32) : Fin 2 → Nat :=
  let v31 : Index := Scalar.indexCast v30
  let c0_10 : Index := 0#32
  ![v31.toNat, 0]

def k0_chk1 (v30 : BitVec 32) : Prop :=
  (∀ a, (k0_off2 v30) a + S1x16.size a ≤ S24x16.size a)
theorem k0_off2_inb : ∀ (v30 : BitVec 32) (k0_hw1 : k0_chk1 v30), ∀ a, (k0_off2 v30) a + S1x16.size a ≤ S24x16.size a := fun v30 k0_hw1 => k0_hw1

def k0_off3 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v33 : Index := Scalar.indexCast v16
  ![v33.toNat]
def k0_off4 (v34 : BitVec 32) : Fin 2 → Nat :=
  let v35 : Index := Scalar.indexCast v34
  let c0_11 : Index := 0#32
  ![v35.toNat, 0]

def k0_chk2 (v34 : BitVec 32) : Prop :=
  (∀ a, (k0_off4 v34) a + S1x8.size a ≤ S10x8.size a)
theorem k0_off4_inb : ∀ (v34 : BitVec 32) (k0_hw2 : k0_chk2 v34), ∀ a, (k0_off4 v34) a + S1x8.size a ≤ S10x8.size a := fun v34 k0_hw2 => k0_hw2

def k0_off5 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v37 : Index := Scalar.indexCast v16
  ![v37.toNat]
def k0_off6 (v38 : BitVec 32) : Fin 2 → Nat :=
  let v39 : Index := Scalar.indexCast v38
  let c0_12 : Index := 0#32
  ![v39.toNat, 0]

def k0_chk3 (v38 : BitVec 32) : Prop :=
  (∀ a, (k0_off6 v38) a + S1x8.size a ≤ S10x8.size a)
theorem k0_off6_inb : ∀ (v38 : BitVec 32) (k0_hw3 : k0_chk3 v38), ∀ a, (k0_off6 v38) a + S1x8.size a ≤ S10x8.size a := fun v38 k0_hw3 => k0_hw3

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x416 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x2048x256 : Shape := ⟨3, ![16, 2048, 256]⟩
abbrev S16x2048x32 : Shape := ⟨3, ![16, 2048, 32]⟩
abbrev S16 : Shape := ⟨1, ![16]⟩
abbrev S256 : Shape := ⟨1, ![256]⟩
abbrev S24x16 : Shape := ⟨2, ![24, 16]⟩
abbrev S10x8 : Shape := ⟨2, ![10, 8]⟩
abbrev S1x1x256 : Shape := ⟨3, ![1, 1, 256]⟩
abbrev S_ : Shape := ⟨0, ![]⟩
abbrev S16x1 : Shape := ⟨2, ![16, 1]⟩
abbrev S1 : Shape := ⟨1, ![1]⟩
abbrev S1x1 : Shape := ⟨2, ![1, 1]⟩
abbrev S16x16 : Shape := ⟨2, ![16, 16]⟩
abbrev S16x1x16 : Shape := ⟨3, ![16, 1, 16]⟩
abbrev S16x2048x16 : Shape := ⟨3, ![16, 2048, 16]⟩
abbrev S16x8 : Shape := ⟨2, ![16, 8]⟩
abbrev S16x1x8 : Shape := ⟨3, ![16, 1, 8]⟩
abbrev S16x2048x8 : Shape := ⟨3, ![16, 2048, 8]⟩
abbrev S16x2048x416 : Shape := ⟨3, ![16, 2048, 416]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x32, .f32⟩
  | .hbm, ⟨2, _⟩ => ⟨S16x2048x32, .f32⟩
  | .hbm, ⟨3, _⟩ => ⟨S16x2048x32, .f32⟩
  | .hbm, ⟨4, _⟩ => ⟨S16x2048x32, .f32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S256, .f32⟩
  | .hbm, ⟨9, _⟩ => ⟨S256, .f32⟩
  | .hbm, ⟨10, _⟩ => ⟨S24x16, .f32⟩
  | .hbm, ⟨11, _⟩ => ⟨S10x8, .f32⟩
  | .hbm, ⟨12, _⟩ => ⟨S1x1x256, .f32⟩
  | .hbm, ⟨13, _⟩ => ⟨S16x2048x256, .f32⟩
  | .hbm, ⟨14, _⟩ => ⟨S16x2048x256, .f32⟩
  | .hbm, ⟨15, _⟩ => ⟨S1x1x256, .f32⟩
  | .hbm, ⟨16, _⟩ => ⟨S16x2048x256, .f32⟩
  | .hbm, ⟨17, _⟩ => ⟨S16x2048x256, .f32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S1, .i32⟩
  | .hbm, ⟨27, _⟩ => ⟨S_, .i32⟩
  | .hbm, ⟨28, _⟩ => ⟨S16x1, .i32⟩
  | .hbm, ⟨29, _⟩ => ⟨S16x1, .i1⟩
  | .hbm, ⟨30, _⟩ => ⟨S1x1, .i32⟩
  | .hbm, ⟨31, _⟩ => ⟨S16x1, .i32⟩
  | .hbm, ⟨32, _⟩ => ⟨S16x1, .i1⟩
  | .hbm, ⟨33, _⟩ => ⟨S16x1, .i1⟩
  | .hbm, ⟨34, _⟩ => ⟨S_, .i1⟩
  | .hbm, ⟨35, _⟩ => ⟨S16, .i1⟩
  | .hbm, ⟨36, _⟩ => ⟨S16x16, .f32⟩
  | .hbm, ⟨37, _⟩ => ⟨S16x16, .i1⟩
  | .hbm, ⟨38, _⟩ => ⟨S_, .f32⟩
  | .hbm, ⟨39, _⟩ => ⟨S16x16, .f32⟩
  | .hbm, ⟨40, _⟩ => ⟨S16x16, .f32⟩
  | .hbm, ⟨41, _⟩ => ⟨S16x1x16, .f32⟩
  | .hbm, ⟨42, _⟩ => ⟨S16x2048x16, .f32⟩
  | .hbm, ⟨43, _⟩ => ⟨S_, .i32⟩
  | .hbm, ⟨44, _⟩ => ⟨S16, .i32⟩
  | .hbm, ⟨45, _⟩ => ⟨S16, .i1⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S16x1, .i32⟩
  | .hbm, ⟨51, _⟩ => ⟨S1, .i32⟩
  | .hbm, ⟨52, _⟩ => ⟨S_, .i32⟩
  | .hbm, ⟨53, _⟩ => ⟨S16x1, .i32⟩
  | .hbm, ⟨54, _⟩ => ⟨S16x1, .i1⟩
  | .hbm, ⟨55, _⟩ => ⟨S1x1, .i32⟩
  | .hbm, ⟨56, _⟩ => ⟨S16x1, .i32⟩
  | .hbm, ⟨57, _⟩ => ⟨S16x1, .i1⟩
  | .hbm, ⟨58, _⟩ => ⟨S16x1, .i1⟩
  | .hbm, ⟨59, _⟩ => ⟨S_, .i1⟩
  | .hbm, ⟨60, _⟩ => ⟨S16, .i1⟩
  | .hbm, ⟨61, _⟩ => ⟨S16x8, .f32⟩
  | .hbm, ⟨62, _⟩ => ⟨S16x8, .i1⟩
  | .hbm, ⟨63, _⟩ => ⟨S_, .f32⟩
  | .hbm, ⟨64, _⟩ => ⟨S16x8, .f32⟩
  | .hbm, ⟨65, _⟩ => ⟨S16x8, .f32⟩
  | .hbm, ⟨66, _⟩ => ⟨S16x1x8, .f32⟩
  | .hbm, ⟨67, _⟩ => ⟨S16x2048x8, .f32⟩
  | .hbm, ⟨68, _⟩ => ⟨S_, .i32⟩
  | .hbm, ⟨69, _⟩ => ⟨S16, .i32⟩
  | .hbm, ⟨70, _⟩ => ⟨S16, .i1⟩
  | .hbm, ⟨71, _⟩ => ⟨S_, .i32⟩
  | .hbm, ⟨72, _⟩ => ⟨S16, .i32⟩
  | .hbm, ⟨73, _⟩ => ⟨S16, .i32⟩
  | .hbm, ⟨74, _⟩ => ⟨S16, .i32⟩
  | .hbm, ⟨75, _⟩ => ⟨S16x1, .i32⟩
  | .hbm, ⟨76, _⟩ => ⟨S1, .i32⟩
  | .hbm, ⟨77, _⟩ => ⟨S_, .i32⟩
  | .hbm, ⟨78, _⟩ => ⟨S16x1, .i32⟩
  | .hbm, ⟨79, _⟩ => ⟨S16x1, .i1⟩
  | .hbm, ⟨80, _⟩ => ⟨S1x1, .i32⟩
  | .hbm, ⟨81, _⟩ => ⟨S16x1, .i32⟩
  | .hbm, ⟨82, _⟩ => ⟨S16x1, .i1⟩
  | .hbm, ⟨83, _⟩ => ⟨S16x1, .i1⟩
  | .hbm, ⟨84, _⟩ => ⟨S_, .i1⟩
  | .hbm, ⟨85, _⟩ => ⟨S16, .i1⟩
  | .hbm, ⟨86, _⟩ => ⟨S16x8, .f32⟩
  | .hbm, ⟨87, _⟩ => ⟨S16x8, .i1⟩
  | .hbm, ⟨88, _⟩ => ⟨S_, .f32⟩
  | .hbm, ⟨89, _⟩ => ⟨S16x8, .f32⟩
  | .hbm, ⟨90, _⟩ => ⟨S16x8, .f32⟩
  | .hbm, ⟨91, _⟩ => ⟨S16x1x8, .f32⟩
  | .hbm, ⟨92, _⟩ => ⟨S16x2048x8, .f32⟩
  | .hbm, ⟨93, _⟩ => ⟨S16x2048x416, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩

abbrev nD : Nat := 1
abbrev τ : Topo := Topo.v7x

variable {F : FTy → Type} [FloatOps F]
-- ==== Proof.KernelFrame.RunA.lean ====
/- The body's run on any whole staging buffers: `kernelRun0_A` holds the pieces that the run stores in the output block,
   with the proof that the body runs to its end leaving everything else as it was. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg4 : Memref sig .tc .vmem S2048x256 .f32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x32 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S24x16 .f32) (harg11 : arg11.IsWhole) (arg12 : Memref sig .tc .vmem S10x8 .f32) (harg12 : arg12.IsWhole) (arg13 : Memref sig .tc .vmem S2048x416 .f32) (harg13 : arg13.IsWhole)
    (x0 : Vec F S2048x256 .f32) (x1 : Vec F S2048x32 .f32) (x2 : Vec F S2048x32 .f32) (x3 : Vec F S2048x32 .f32) (x4 : Vec F S2048x32 .f32) (x5 : Vec F S1x256 .f32) (x6 : Vec F S1x256 .f32) (x7 : Vec F S24x16 .f32) (x8 : Vec F S10x8 .f32) (xt0 : TbBuf0 (F := F) c tbM0_0) (xt1 : TbBuf0 (F := F) c tbM0_1) (xt2 : TbBuf0 (F := F) c tbM0_2) (k0_hw1 : k0_chk1 (tbM0_0.view.readAt (Elt F) (Rect.unit (s := S16) (k0_off1 i) S1.size (k0_off1_inb i)).toLoadRect xt0 (Shape.Idx.first (numel1_S1.symm ▸ Nat.one_pos)))) (k0_hw2 : k0_chk2 (tbM0_1.view.readAt (Elt F) (Rect.unit (s := S16) (k0_off3 i) S1.size (k0_off3_inb i)).toLoadRect xt1 (Shape.Idx.first (numel1_S1.symm ▸ Nat.one_pos)))) (k0_hw3 : k0_chk3 (tbM0_2.view.readAt (Elt F) (Rect.unit (s := S16) (k0_off5 i) S1.size (k0_off5_inb i)).toLoadRect xt2 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0__body i tbM0_0 htbM0_0 tbM0_1 htbM0_1 tbM0_2 htbM0_2 arg4 harg4 arg5 harg5 arg6 harg6 arg7 harg7 arg8 harg8 arg9 harg9 arg10 harg10 arg11 harg11 arg12 harg12 arg13 harg13) K := by
    intro E K
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact k0_hw1 | sl_exact k0_hw2 | sl_exact k0_hw3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [HT0]; · iexact HT0
    isplitl [HT1]; · iexact HT1
    iexact HT2

end Cert.Kernel.Own

end
-- ==== Proof.KernelIdealFrame.Runs.lean ====
/- What the frame of this program rests on: @main around its one kernel region, the buffers the host lines before and
   after the region leave alone, the three prefetched tables as the body holds them, the blocks of the windows, and `Hyps`,
   the side conditions on table words under which the body is inside its buffers.
   The text is the launch kit's, with the three tables split off one at a time (`PhiT0_eq`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg5
abbrev htbM0_0 : tbM0_0.IsWhole := Memref.isWhole_whole _
abbrev tbM0_1 : Memref sig .tc .smem S16 .i32 := Memref.whole main_arg6
abbrev htbM0_1 : tbM0_1.IsWhole := Memref.isWhole_whole _
abbrev tbM0_2 : Memref sig .tc .smem S16 .i32 := Memref.whole main_arg7
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg9 = m ((c : Thread nD τ).loc main_arg9) := by
  unfold Pipeline.afterTail
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c)),
      (((h c).2 main_arg7 (by decide : main_arg7 ∈ Pipeline.restRefs sig spec0)).trans (W_main_arg7 m hO dats c)),
      (((h c).2 main_arg8 (by decide : main_arg8 ∈ Pipeline.restRefs sig spec0)).trans (W_main_arg8 m hO dats c)),
      (((h c).2 main_arg9 (by decide : main_arg9 ∈ Pipeline.restRefs sig spec0)).trans (W_main_arg9 m hO dats c)),
      ((h c).1 7).trans (((dats 0 c).arrAt_in 7 rfl _).trans ((hA c 7).trans (V_main_arg10 m c))),
      ((h c).1 8).trans (((dats 0 c).arrAt_in 8 rfl _).trans ((hA c 8).trans (V_main_arg11 m c)))⟩) h

/-! ## The kernel body on any staging memrefs: a subtype the run finds -/

/-- One staging buffer of output window 9, through which its contents are stated (`View.read_writes_of_cover`: the
    choice does not matter). -/
abbrev VO0_9 : View sig .tc .vmem S2048x416 .f32 := (Memref.whole cc0_stg9_0 : Memref sig .tc .vmem S2048x416 .f32).view
/-- Each window's current staging memref at point `t`, spelled as the pipeline passes it (`bodyAt0`), and its wholeness. -/
abbrev ms0_0 (hO : Ok m) (t : Fin (cfgM m hO).N) : Memref sig .tc .vmem S2048x256 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2048x32 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2048x32 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2048x32 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x32 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S24x16 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S10x8 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S2048x416 .f32 := spec0_9.stage ((cfgM m hO).slots t 9)
abbrev hs0_9 (hO : Ok m) (t : Fin (cfgM m hO).N) : (ms0_9 m hO t).IsWhole := hstage0_9 (((cfgM m hO).slots t 9).cast nbuf0_9)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S16) (k0_off1 (grid0.coords t)) S1.size (k0_off1_inb (grid0.coords t))).toLoadRect (tbl m 0) (Shape.Idx.first (numel1_S1.symm ▸ Nat.one_pos)))
    ∧ k0_chk2 (tbM0_1.view.readAt (Elt F) (Rect.unit (s := S16) (k0_off3 (grid0.coords t)) S1.size (k0_off3_inb (grid0.coords t))).toLoadRect (tbl m 1) (Shape.Idx.first (numel1_S1.symm ▸ Nat.one_pos)))
    ∧ k0_chk3 (tbM0_2.view.readAt (Elt F) (Rect.unit (s := S16) (k0_off5 (grid0.coords t)) S1.size (k0_off5_inb (grid0.coords t))).toLoadRect (tbl m 2) (Shape.Idx.first (numel1_S1.symm ▸ Nat.one_pos)))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S16) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S16) (k0_off1 (grid0.coords t)) S1.size (k0_off1_inb (grid0.coords t))).toLoadRect (tbl m 0) (Shape.Idx.first (numel1_S1.symm ▸ Nat.one_pos))) := (hH c t).1
/-- Conjunct 1 of `Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (tbM0_1.view.readAt (Elt F) (Rect.unit (s := S16) (k0_off3 (grid0.coords t)) S1.size (k0_off3_inb (grid0.coords t))).toLoadRect (tbl m 1) (Shape.Idx.first (numel1_S1.symm ▸ Nat.one_pos)))
variable {m} in
theorem Hyps.c1 {hO : Ok m} (hH : Hyps m hO) (c : Dev nD) (t : Fin (cfgM m hO).N) :
    k0_chk2 (tbM0_1.view.readAt (Elt F) (Rect.unit (s := S16) (k0_off3 (grid0.coords t)) S1.size (k0_off3_inb (grid0.coords t))).toLoadRect (tbl m 1) (Shape.Idx.first (numel1_S1.symm ▸ Nat.one_pos))) := (hH c t).2.1
/-- Conjunct 2 of `Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (tbM0_2.view.readAt (Elt F) (Rect.unit (s := S16) (k0_off5 (grid0.coords t)) S1.size (k0_off5_inb (grid0.coords t))).toLoadRect (tbl m 2) (Shape.Idx.first (numel1_S1.symm ▸ Nat.one_pos)))
variable {m} in
theorem Hyps.c2 {hO : Ok m} (hH : Hyps m hO) (c : Dev nD) (t : Fin (cfgM m hO).N) :
    k0_chk3 (tbM0_2.view.readAt (Elt F) (Rect.unit (s := S16) (k0_off5 (grid0.coords t)) S1.size (k0_off5_inb (grid0.coords t))).toLoadRect (tbl m 2) (Shape.Idx.first (numel1_S1.symm ▸ Nat.one_pos))) := (hH c t).2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t) :
    Hyps m hO := fun c t =>
  And.intro (p0 c t) (And.intro (p1 c t) (p2 c t))

end Cert.KernelIdeal.Own

end
-- ==== Proof.KernelIdealFrame.RunA.lean ====
/- The body's run on any whole staging buffers: `kernelRun0_A` holds the pieces that the run stores in the output block,
   with the proof that the body runs to its end leaving everything else as it was. -/
module

public import proofs.«01_k».proof.Proof.KernelIdealFrame.Runs

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg4 : Memref sig .tc .vmem S2048x256 .f32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x32 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S24x16 .f32) (harg11 : arg11.IsWhole) (arg12 : Memref sig .tc .vmem S10x8 .f32) (harg12 : arg12.IsWhole) (arg13 : Memref sig .tc .vmem S2048x416 .f32) (harg13 : arg13.IsWhole)
    (x0 : Vec F S2048x256 .f32) (x1 : Vec F S2048x32 .f32) (x2 : Vec F S2048x32 .f32) (x3 : Vec F S2048x32 .f32) (x4 : Vec F S2048x32 .f32) (x5 : Vec F S1x256 .f32) (x6 : Vec F S1x256 .f32) (x7 : Vec F S24x16 .f32) (x8 : Vec F S10x8 .f32) (xt0 : TbBuf0 (F := F) c tbM0_0) (xt1 : TbBuf0 (F := F) c tbM0_1) (xt2 : TbBuf0 (F := F) c tbM0_2) (k0_hw1 : k0_chk1 (tbM0_0.view.readAt (Elt F) (Rect.unit (s := S16) (k0_off1 i) S1.size (k0_off1_inb i)).toLoadRect xt0 (Shape.Idx.first (numel1_S1.symm ▸ Nat.one_pos)))) (k0_hw2 : k0_chk2 (tbM0_1.view.readAt (Elt F) (Rect.unit (s := S16) (k0_off3 i) S1.size (k0_off3_inb i)).toLoadRect xt1 (Shape.Idx.first (numel1_S1.symm ▸ Nat.one_pos)))) (k0_hw3 : k0_chk3 (tbM0_2.view.readAt (Elt F) (Rect.unit (s := S16) (k0_off5 i) S1.size (k0_off5_inb i)).toLoadRect xt2 (Shape.Idx.first (numel1_S1.symm ▸ Nat.one_pos)))) :
    { L9 : List (View.Piece (Elt F) S2048x416 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f L9) ∗ tbPt0 c tbM0_0 xt0 ∗ tbPt0 c tbM0_1 xt1 ∗ tbPt0 c tbM0_2 xt2) -∗ K ⟨⟩))
          ⊢ wp frame (wpE (defs₀ (F := F)) Variants.none c none) E (cc0__body i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact k0_hw1 | sl_exact k0_hw2 | sl_exact k0_hw3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]; · iexists _; iexact H9
    isplitl [HT0]; · iexact HT0
    isplitl [HT1]; · iexact HT1
    iexact HT2

end Cert.KernelIdeal.Own

end
-- ==== Proof.KernelIdealFrame.Whole.lean ====
/- The launch: the body's obligation at a grid point, the run of @main (`run_main_quiescent`), and `frame`: under `Ok` and
   `Hyps` every run ends, with the arguments unchanged and every semaphore counter at zero. -/
module

public import proofs.«01_k».proof.Proof.KernelIdealFrame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 9 tile its block (1 store of `S2048x416`, checked by the kernel's evaluation: Lib/Ring.lean `Piece.tiledL`, linear in the pieces, through a loop's `@[irreducible]` trip theorem too), so they cover it. -/
theorem cover0_A_9 (c : Dev nD) (i : grid0.Coords) (arg4 : Memref sig .tc .vmem S2048x256 .f32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x32 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S24x16 .f32) (harg11 : arg11.IsWhole) (arg12 : Memref sig .tc .vmem S10x8 .f32) (harg12 : arg12.IsWhole) (arg13 : Memref sig .tc .vmem S2048x416 .f32) (harg13 : arg13.IsWhole)
    (x0 : Vec F S2048x256 .f32) (x1 : Vec F S2048x32 .f32) (x2 : Vec F S2048x32 .f32) (x3 : Vec F S2048x32 .f32) (x4 : Vec F S2048x32 .f32) (x5 : Vec F S1x256 .f32) (x6 : Vec F S1x256 .f32) (x7 : Vec F S24x16 .f32) (x8 : Vec F S10x8 .f32) (xt0 : TbBuf0 (F := F) c tbM0_0) (xt1 : TbBuf0 (F := F) c tbM0_1) (xt2 : TbBuf0 (F := F) c tbM0_2) (k0_hw1 : k0_chk1 (tbM0_0.view.readAt (Elt F) (Rect.unit (s := S16) (k0_off1 i) S1.size (k0_off1_inb i)).toLoadRect xt0 (Shape.Idx.first (numel1_S1.symm ▸ Nat.one_pos)))) (k0_hw2 : k0_chk2 (tbM0_1.view.readAt (Elt F) (Rect.unit (s := S16) (k0_off3 i) S1.size (k0_off3_inb i)).toLoadRect xt1 (Shape.Idx.first (numel1_S1.symm ▸ Nat.one_pos)))) (k0_hw3 : k0_chk3 (tbM0_2.view.readAt (Elt F) (Rect.unit (s := S16) (k0_off5 i) S1.size (k0_off5_inb i)).toLoadRect xt2 (Shape.Idx.first (numel1_S1.symm ▸ Nat.one_pos)))) (y : S2048x416.Idx) :
    ∃ pc ∈ (kernelRun0_A c i arg4 harg4 arg5 harg5 arg6 harg6 arg7 harg7 arg8 harg8 arg9 harg9 arg10 harg10 arg11 harg11 arg12 harg12 arg13 harg13 x0 x1 x2 x3 x4 x5 x6 x7 x8 xt0 xt1 xt2 k0_hw1 k0_hw2 k0_hw3).1, y ∈ pc.1.set :=
  View.cover_of_tiledL (kernelRun0_A c i arg4 harg4 arg5 harg5 arg6 harg6 arg7 harg7 arg8 harg8 arg9 harg9 arg10 harg10 arg11 harg11 arg12 harg12 arg13 harg13 x0 x1 x2 x3 x4 x5 x6 x7 x8 xt0 xt1 xt2 k0_hw1 k0_hw2 k0_hw3).1 S2048x416.size (by sl_kernel_rfl) y

/-- What the run leaves in output 9's staging buffer: its pieces read back over junk. -/
def out0_A_9 (c : Dev nD) (i : grid0.Coords) (arg4 : Memref sig .tc .vmem S2048x256 .f32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x32 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S24x16 .f32) (harg11 : arg11.IsWhole) (arg12 : Memref sig .tc .vmem S10x8 .f32) (harg12 : arg12.IsWhole) (arg13 : Memref sig .tc .vmem S2048x416 .f32) (harg13 : arg13.IsWhole)
    (x0 : Vec F S2048x256 .f32) (x1 : Vec F S2048x32 .f32) (x2 : Vec F S2048x32 .f32) (x3 : Vec F S2048x32 .f32) (x4 : Vec F S2048x32 .f32) (x5 : Vec F S1x256 .f32) (x6 : Vec F S1x256 .f32) (x7 : Vec F S24x16 .f32) (x8 : Vec F S10x8 .f32) (xt0 : TbBuf0 (F := F) c tbM0_0) (xt1 : TbBuf0 (F := F) c tbM0_1) (xt2 : TbBuf0 (F := F) c tbM0_2) (k0_hw1 : k0_chk1 (tbM0_0.view.readAt (Elt F) (Rect.unit (s := S16) (k0_off1 i) S1.size (k0_off1_inb i)).toLoadRect xt0 (Shape.Idx.first (numel1_S1.symm ▸ Nat.one_pos)))) (k0_hw2 : k0_chk2 (tbM0_1.view.readAt (Elt F) (Rect.unit (s := S16) (k0_off3 i) S1.size (k0_off3_inb i)).toLoadRect xt1 (Shape.Idx.first (numel1_S1.symm ▸ Nat.one_pos)))) (k0_hw3 : k0_chk3 (tbM0_2.view.readAt (Elt F) (Rect.unit (s := S16) (k0_off5 i) S1.size (k0_off5_inb i)).toLoadRect xt2 (Shape.Idx.first (numel1_S1.symm ▸ Nat.one_pos)))) : Vec F S2048x416 .f32 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 x0 x1 x2 x3 x4 x5 x6 x7 x8 xt0 xt1 xt2 k0_hw1 k0_hw2 k0_hw3).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S2048x416 .f32 :=
  out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) (Hyps.c0 hH c t) (Hyps.c1 hH c t) (Hyps.c2 hH c t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO hH c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = (outsAt0 m hO hH c t) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t))

set_option maxHeartbeats 800000 in
/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9]
  rw [show (dats m hO hH 0 c).Φ t.castSucc = iprop(Pipeline.ΦA spec0 c ∗ Pipeline.ΦT pre0 (tbl m) c) from rfl, PhiT0_eq]
  unfold outsAt0
  unfold out0_A_9
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) (Hyps.c0 hH c t) (Hyps.c1 hH c t) (Hyps.c2 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  isplitl [HT1]; · iexact HT1
  isplitl [HT2]; · iexact HT2
  iintro ⟨H0, H1, H2, H3, H4, H5, H6, H7, H8, ⟨%e9, H9⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (Pipeline.afterTail pcfgs (fun _ => adm m hO) (dats m hO hH) 0 (V0 m) [hostOps1])) r ∧ r.2.sem = fun _ => 0) :=
  Pipeline.θ_run_frameP_around (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hH) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (Pipeline.afterTail pcfgs (fun _ => adm m hO) (dats m hO hH) 0 (V0 m) [hostOps1])) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ hO (dats m hO hH) (A_eq m hO hH) (run_main m ρ hO hH)

/-- THE FRAME at any reading of the floats: under `Ok m` (the pipeline's side condition of the tables) and `Hyps m hO` (the
    side conditions the body assumes, at every point) every run ends with the arguments unchanged and the counters at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hO hH) ((θ_run defs _ _).mono (fun _ h => h.2) (run_main_quiescent m ρ hO hH))

end Cert.KernelIdeal.Own

end
-- ==== Proof.KernelIdealFrame.Sides.lean ====
/- The frame's two conditions, from bounds on the index arrays: no block's place depends on a table, and each row that the
   body loads from a table at an index it has read lies inside that table. -/
module

public import proofs.«01_k».proof.Proof.KernelIdealFrame.Runs

@[expose] public section

namespace Cert.KernelIdeal.Own

open Cert.KernelIdeal Cert.KernelIdeal.Gen
open Idealize.ShloMosaic Idealize.ShloMosaic.TcCoe

variable {F : FTy → Type} [FloatOps F] (m : (ℓ : Loc nD τ sig) → Buf (Elt F) ℓ)

/-- No index map reads a table, so the condition on the blocks is empty. -/
theorem ok : Ok m := trivial

/-- A row number below 24 is a row of the first table. -/
theorem row_first {v : BitVec 32} (h : v.toNat < 24) : k0_chk1 v := fun a => by
  match a with
  | ⟨0, _⟩ => show v.toNat + 1 ≤ 24; omega
  | ⟨1, _⟩ => exact Nat.le_refl 16

/-- A row number below 10 is a row of the second table. -/
theorem row_second {v : BitVec 32} (h : v.toNat < 10) : k0_chk2 v := fun a => by
  match a with
  | ⟨0, _⟩ => show v.toNat + 1 ≤ 10; omega
  | ⟨1, _⟩ => exact Nat.le_refl 8

/-- The same of the second load from that table. -/
theorem row_third {v : BitVec 32} (h : v.toNat < 10) : k0_chk3 v := fun a => by
  match a with
  | ⟨0, _⟩ => show v.toNat + 1 ≤ 10; omega
  | ⟨1, _⟩ => exact Nat.le_refl 8

/-- The bounds give the body's side conditions at every point. -/
theorem hyps (h5 : ∀ i, (m (((0 : Dev nD) : Thread nD τ).loc main_arg5) i).toNat < 24)
    (h6 : ∀ i, (m (((0 : Dev nD) : Thread nD τ).loc main_arg6) i).toNat < 10)
    (h7 : ∀ i, (m (((0 : Dev nD) : Thread nD τ).loc main_arg7) i).toNat < 10) : Hyps m (ok m) := by
  have e5 : tbl m 0 = m (((0 : Dev nD) : Thread nD τ).loc main_arg5) := V_main_arg5 m 0
  have e6 : tbl m 1 = m (((0 : Dev nD) : Thread nD τ).loc main_arg6) := V_main_arg6 m 0
  have e7 : tbl m 2 = m (((0 : Dev nD) : Thread nD τ).loc main_arg7) := V_main_arg7 m 0
  refine Hyps.of (fun c t => ?_) (fun c t => ?_) (fun c t => ?_)
  · refine row_first ?_; rw [e5]; exact h5 _
  · refine row_second ?_; rw [e6]; exact h6 _
  · refine row_third ?_; rw [e7]; exact h7 _

end Cert.KernelIdeal.Own
-- ==== Proof.Bounds.lean ====
/- What the precondition says of the three index arrays: every entry of `main_arg5`, read as an unsigned number, is below 24,
   and every entry of `main_arg6` and `main_arg7` below 10. -/
module

public import proofs.«01_k».proof.Proof.Gen.Pre_in_tables
public import Idealize.ShloMosaic.Lib.ReduceAll
public import Idealize.ShloMosaic.Lib.StableHlo.Predicate

@[expose] public section

namespace Cert.Bounds

open Idealize.ShloMosaic Cert.Pre_in_tables

/-- The result of the precondition has one entry. -/
instance : Subsingleton S_.Idx := ⟨fun a b => funext fun k => k.elim0⟩

/-- A conjunction of two bits that is 1 has both bits 1. -/
theorem both_of_and {a b : BitVec 1} (h : IntOp.andi a b = 1#1) : a = 1#1 ∧ b = 1#1 := by
  revert a b; decide

/-- A word that is at least 0 and below `n`, both read signed, is below `n` read unsigned. -/
theorem lt_of_signed {n : Nat} (hn : n < 2 ^ 31) {x : BitVec 32}
    (h0 : IntOp.cmpi .sge x 0#32 = 1#1) (h1 : IntOp.cmpi .slt x (BitVec.ofNat 32 n) = 1#1) : x.toNat < n := by
  have e0 : (0#32).sle x = true := by
    revert h0; show BitVec.ofBool ((0#32).sle x) = 1#1 → _
    cases (0#32).sle x <;> simp
  have e1 : x.slt (BitVec.ofNat 32 n) = true := by
    revert h1; show BitVec.ofBool (x.slt (BitVec.ofNat 32 n)) = 1#1 → _
    cases x.slt (BitVec.ofNat 32 n) <;> simp
  have hm : n % 2 ^ 32 = n := Nat.mod_eq_of_lt (by omega)
  simp only [BitVec.sle, BitVec.slt, decide_eq_true_eq, BitVec.toInt_eq_toNat_cond, BitVec.toNat_ofNat, hm] at e0 e1
  split at e0 <;> split at e1 <;> omega

/-- One index array's part of the precondition, decoded: where the conjunction over all positions of `0 ≤ x ∧ x < n` is 1,
    every entry is below `n`. -/
theorem entries_lt {n : Nat} (hn : n < 2 ^ 31) (x : IVec S16 32) (j : S_.Idx)
    (hb : S_.BroadcastsInDim S16 (![] : Fin 0 → Fin S16.rank)) (hr : S16.ReducesTo [0] S_) (hs : 0 < S_.numel)
    (h : Host.reduce IntOp.andi
        (andi (cmpi .sge x (broadcastInDim S16 ![] hb (constantI S_ 32 0#32)))
          (cmpi .slt x (broadcastInDim S16 ![] hb (constantI S_ 32 (BitVec.ofNat 32 n)))))
        (constantI S_ 1 1#1) hr hs j = 1#1) (i : S16.Idx) : (x i).toNat < n := by
  have e := Host.reduce_andi_all _ _ _ _ _ h i
  obtain ⟨e0, e1⟩ := both_of_and e
  exact lt_of_signed hn e0 e1

/-- The precondition, decoded: the three index arrays point inside their tables. -/
theorem of_pre {F : FTy → Type} [FloatOps F] {x0 : FVec F S16x2048x256 .f32} {x1 x2 x3 x4 : FVec F S16x2048x32 .f32}
    {x5 x6 x7 : IVec S16 32} {x8 x9 : FVec F S256 .f32} {x10 : FVec F S24x16 .f32} {x11 : FVec F S10x8 .f32}
    (h : Pre_in_tables.fn (F := F) x0 x1 x2 x3 x4 x5 x6 x7 x8 x9 x10 x11 = fun _ => 1#1) :
    (∀ i, (x5 i).toNat < 24) ∧ (∀ i, (x6 i).toNat < 10) ∧ ∀ i, (x7 i).toNat < 10 := by
  have e := congrFun h (Shape.Idx.first Gen.h_S_)
  obtain ⟨e56, e7⟩ := both_of_and e
  obtain ⟨e5, e6⟩ := both_of_and e56
  exact ⟨entries_lt (by decide) x5 _ _ _ _ e5, entries_lt (by decide) x6 _ _ _ _ e6, entries_lt (by decide) x7 _ _ _ _ e7⟩

end Cert.Bounds
-- ==== Proof.Value.Joined.lean ====
/- One row of the result: eight pieces laid end to end, 256 + 4·32 + 16 + 8 + 8 = 416 entries. Both programs build the result
   by one concatenation along the last axis, the kernel on blocks of rank 2 and the reference on the whole array of rank 3:
   read at an index, each is `joined` of the pieces' rows. -/
module

public import Idealize.ShloMosaic.Lib.Pointwise

@[expose] public section

namespace Cert.Value

open Idealize.ShloMosaic

/-- Entry `d` of the eight pieces laid end to end. -/
def joined {α : Type} (p0 : Fin 256 → α) (p1 p2 p3 p4 : Fin 32 → α) (p5 : Fin 16 → α) (p6 p7 : Fin 8 → α) (d : Fin 416) : α :=
  if h0 : d.val < 256 then p0 ⟨d.val, h0⟩
  else if h1 : d.val - 256 < 32 then p1 ⟨d.val - 256, h1⟩
  else if h2 : d.val - 256 - 32 < 32 then p2 ⟨d.val - 256 - 32, h2⟩
  else if h3 : d.val - 256 - 32 - 32 < 32 then p3 ⟨d.val - 256 - 32 - 32, h3⟩
  else if h4 : d.val - 256 - 32 - 32 - 32 < 32 then p4 ⟨d.val - 256 - 32 - 32 - 32, h4⟩
  else if h5 : d.val - 256 - 32 - 32 - 32 - 32 < 16 then p5 ⟨d.val - 256 - 32 - 32 - 32 - 32, h5⟩
  else if h6 : d.val - 256 - 32 - 32 - 32 - 32 - 16 < 8 then p6 ⟨d.val - 256 - 32 - 32 - 32 - 32 - 16, h6⟩
  else p7 ⟨d.val - 256 - 32 - 32 - 32 - 32 - 16 - 8, by omega⟩

/-- Rows of equal pieces are equal. -/
theorem joined_congr {α : Type} {p0 q0 : Fin 256 → α} {p1 q1 p2 q2 p3 q3 p4 q4 : Fin 32 → α} {p5 q5 : Fin 16 → α}
    {p6 q6 p7 q7 : Fin 8 → α} (h0 : ∀ k, p0 k = q0 k) (h1 : ∀ k, p1 k = q1 k) (h2 : ∀ k, p2 k = q2 k) (h3 : ∀ k, p3 k = q3 k)
    (h4 : ∀ k, p4 k = q4 k) (h5 : ∀ k, p5 k = q5 k) (h6 : ∀ k, p6 k = q6 k) (h7 : ∀ k, p7 k = q7 k) (d : Fin 416) :
    joined p0 p1 p2 p3 p4 p5 p6 p7 d = joined q0 q1 q2 q3 q4 q5 q6 q7 d := by
  rw [funext h0, funext h1, funext h2, funext h3, funext h4, funext h5, funext h6, funext h7]

variable {α : Type}

/-- The concatenation of eight blocks of 2048 rows, at row `r` and column `d`. -/
theorem concat_rows (x0 : Shape.Idx ⟨2, ![2048, 256]⟩ → α) (x1 x2 x3 x4 : Shape.Idx ⟨2, ![2048, 32]⟩ → α)
    (x5 : Shape.Idx ⟨2, ![2048, 16]⟩ → α) (x6 x7 : Shape.Idx ⟨2, ![2048, 8]⟩ → α)
    (h : Shape.Concatenates [⟨2, ![2048, 256]⟩, ⟨2, ![2048, 32]⟩, ⟨2, ![2048, 32]⟩, ⟨2, ![2048, 32]⟩, ⟨2, ![2048, 32]⟩,
      ⟨2, ![2048, 16]⟩, ⟨2, ![2048, 8]⟩, ⟨2, ![2048, 8]⟩] ⟨2, ![2048, 416]⟩ 1) (r : Fin 2048) (d : Fin 416) :
    concatenate ⟨2, ![2048, 416]⟩ 1 [⟨⟨2, ![2048, 256]⟩, x0⟩, ⟨⟨2, ![2048, 32]⟩, x1⟩, ⟨⟨2, ![2048, 32]⟩, x2⟩, ⟨⟨2, ![2048, 32]⟩, x3⟩,
        ⟨⟨2, ![2048, 32]⟩, x4⟩, ⟨⟨2, ![2048, 16]⟩, x5⟩, ⟨⟨2, ![2048, 8]⟩, x6⟩, ⟨⟨2, ![2048, 8]⟩, x7⟩] h (ix2 r d)
      = joined (fun k => x0 (ix2 r k)) (fun k => x1 (ix2 r k)) (fun k => x2 (ix2 r k)) (fun k => x3 (ix2 r k))
          (fun k => x4 (ix2 r k)) (fun k => x5 (ix2 r k)) (fun k => x6 (ix2 r k)) (fun k => x7 (ix2 r k)) d := by
  pointwise
  rfl

/-- The concatenation of eight arrays of rank 3 along the last axis, at `(b, t, d)`. -/
theorem concat_planes (x0 : Shape.Idx ⟨3, ![16, 2048, 256]⟩ → α) (x1 x2 x3 x4 : Shape.Idx ⟨3, ![16, 2048, 32]⟩ → α)
    (x5 : Shape.Idx ⟨3, ![16, 2048, 16]⟩ → α) (x6 x7 : Shape.Idx ⟨3, ![16, 2048, 8]⟩ → α)
    (h : Shape.Concatenates [⟨3, ![16, 2048, 256]⟩, ⟨3, ![16, 2048, 32]⟩, ⟨3, ![16, 2048, 32]⟩, ⟨3, ![16, 2048, 32]⟩, ⟨3, ![16, 2048, 32]⟩,
      ⟨3, ![16, 2048, 16]⟩, ⟨3, ![16, 2048, 8]⟩, ⟨3, ![16, 2048, 8]⟩] ⟨3, ![16, 2048, 416]⟩ 2) (b : Fin 16) (t : Fin 2048) (d : Fin 416) :
    concatenate ⟨3, ![16, 2048, 416]⟩ 2 [⟨⟨3, ![16, 2048, 256]⟩, x0⟩, ⟨⟨3, ![16, 2048, 32]⟩, x1⟩, ⟨⟨3, ![16, 2048, 32]⟩, x2⟩, ⟨⟨3, ![16, 2048, 32]⟩, x3⟩,
        ⟨⟨3, ![16, 2048, 32]⟩, x4⟩, ⟨⟨3, ![16, 2048, 16]⟩, x5⟩, ⟨⟨3, ![16, 2048, 8]⟩, x6⟩, ⟨⟨3, ![16, 2048, 8]⟩, x7⟩] h (ix3 b t d)
      = joined (fun k => x0 (ix3 b t k)) (fun k => x1 (ix3 b t k)) (fun k => x2 (ix3 b t k)) (fun k => x3 (ix3 b t k))
          (fun k => x4 (ix3 b t k)) (fun k => x5 (ix3 b t k)) (fun k => x6 (ix3 b t k)) (fun k => x7 (ix3 b t k)) d := by
  pointwise
  rfl

end Cert.Value
-- ==== Proof.Value.Block.lean ====
/- What one block of the kernel computes: the block that the body stores, read at row `r` and column `d`, is one row of eight
   pieces laid end to end. -/
module

public import proofs.«01_k».proof.Proof.Value.Joined
public import proofs.«01_k».proof.Proof.Gen.KernelIdeal.Skeleton
public import Idealize.ShloMosaic.PureOps.Ideal

@[expose] public section

noncomputable section

namespace Cert.Value

open Idealize.ShloMosaic
open Cert.KernelIdeal Cert.KernelIdeal.Gen

/-- The normalized features of a block at `(r, k)`: the two rows of statistics are the same for every `r`. -/
theorem block_features (x : Vec Ideal S2048x256 .f32) (mean dev : Vec Ideal S1x256 .f32) (r : Fin 2048) (k : Fin 256) :
    k0_pay2 x mean dev (ix2 r k)
      = FloatOps.divf (FloatOps.subf (x (ix2 r k)) (mean (ix2 0 k))) (dev (ix2 0 k)) := by
  pointwise [k0_pay2]

/-- The stored block at `(r, d)`. -/
theorem block_at (x0 : FVec Ideal S2048x256 .f32) (x1 x2 x3 x4 : Vec Ideal S2048x32 .f32) (row5 : Vec Ideal S1x16 .f32)
    (row6 row7 : Vec Ideal S1x8 .f32) (r : Fin 2048) (d : Fin 416) :
    k0_pay1 x0 row5 row6 row7 x1 x2 x3 x4 (ix2 r d)
      = joined (fun k => x0 (ix2 r k)) (fun k => x1 (ix2 r k)) (fun k => x2 (ix2 r k)) (fun k => x3 (ix2 r k))
          (fun k => x4 (ix2 r k)) (fun k => row5 (ix2 0 k)) (fun k => row6 (ix2 0 k)) (fun k => row7 (ix2 0 k)) d := by
  unfold k0_pay1
  refine (concat_rows _ _ _ _ _ _ _ _ _ r d).trans ?_
  refine joined_congr (fun k => rfl) (fun k => ?_) (fun k => ?_) (fun k => ?_) (fun k => ?_)
    (fun k => ?_) (fun k => ?_) (fun k => ?_) d <;> pointwise

end Cert.Value
-- ==== Proof.Value.Left.lean ====
/- What the body leaves in the result's block: row `r` of the five row blocks it reads, the features normalized, and one row of
   each table, at the word that the point reads from its index array. -/
module

public import proofs.«01_k».proof.Proof.Value.Block
public import proofs.«01_k».proof.Proof.KernelIdealFrame.Whole
public import Idealize.ShloMosaic.Lib.Pipeline.ValueKit

@[expose] public section

noncomputable section

namespace Cert.Value

open Idealize.ShloMosaic Idealize.ShloMosaic.TcCoe Idealize.ShloMosaic.Tactic
open Cert.KernelIdeal Cert.KernelIdeal.Gen Cert.KernelIdeal.Own

/-- The first index array's word that the point reads lies at the point's own place. -/
theorem word_place_5 : ∀ t : Fin grid0.N, k0_off1 (grid0.coords t) = ![t.val] := by decide +kernel
/-- The second's. -/
theorem word_place_6 : ∀ t : Fin grid0.N, k0_off3 (grid0.coords t) = ![t.val] := by decide +kernel
/-- The third's. -/
theorem word_place_7 : ∀ t : Fin grid0.N, k0_off5 (grid0.coords t) = ![t.val] := by decide +kernel

/-- One word of sixteen, at place `t`. -/
theorem word_load (f : S16.Idx → BitVec 32) (off : Fin 1 → ℕ) (inb : ∀ a, off a + S1.size a ≤ S16.size a) (h) (t : Fin 16)
    (e : off = ![t.val]) : f ((Rect.unit (s := S16) off S1.size inb).idx (Shape.Idx.first h)) = f (ix1 t) := by
  subst e
  refine congrArg f ?_
  funext a
  match a with
  | ⟨0, _⟩ => exact Fin.ext (by show t.val + 1 * 0 = t.val; omega)

/-- The place of a row, from its number. -/
theorem offsets {v w : BitVec 32} {n : ℕ} (h : v = w) (e : w.toNat = n) : (![v.toNat, 0] : Fin 2 → ℕ) = ![n, 0] := by
  rw [h, e]

/-- One row of a table, at place `v`. -/
theorem row_load {n w : Nat} (f : (⟨2, ![n, w]⟩ : Shape).Idx → Ideal .f32) (off : Fin 2 → ℕ) (inb) (v : Fin n) (e : off = ![v.val, 0]) (k : Fin w) :
    f ((Rect.unit (s := ⟨2, ![n, w]⟩) off ![1, w] inb).idx (ix2 0 k)) = f (ix2 v k) := by
  subst e
  refine congrArg f ?_
  funext a
  match a with
  | ⟨0, _⟩ => exact Fin.ext (by show v.val + 1 * 0 = v.val; omega)
  | ⟨1, _⟩ => exact Fin.ext (by show 0 + 1 * k.val = k.val; omega)

/-- The block that the body leaves at point `p`, at row `r` and column `d`. -/
theorem left_at (c : Dev nD) (i : grid0.Coords) (arg4 : Memref sig .tc .vmem S2048x256 .f32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x32 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S24x16 .f32) (harg11 : arg11.IsWhole) (arg12 : Memref sig .tc .vmem S10x8 .f32) (harg12 : arg12.IsWhole) (arg13 : Memref sig .tc .vmem S2048x416 .f32) (harg13 : arg13.IsWhole)
    (x0 : Vec Ideal S2048x256 .f32) (x1 : Vec Ideal S2048x32 .f32) (x2 : Vec Ideal S2048x32 .f32) (x3 : Vec Ideal S2048x32 .f32) (x4 : Vec Ideal S2048x32 .f32) (x5 : Vec Ideal S1x256 .f32) (x6 : Vec Ideal S1x256 .f32) (x7 : Vec Ideal S24x16 .f32) (x8 : Vec Ideal S10x8 .f32) (xt0 : TbBuf0 (F := Ideal) c tbM0_0) (xt1 : TbBuf0 (F := Ideal) c tbM0_1) (xt2 : TbBuf0 (F := Ideal) c tbM0_2) (k0_hw1 : k0_chk1 (tbM0_0.view.readAt (Elt Ideal) (Rect.unit (s := S16) (k0_off1 i) S1.size (k0_off1_inb i)).toLoadRect xt0 (Shape.Idx.first (numel1_S1.symm ▸ Nat.one_pos)))) (k0_hw2 : k0_chk2 (tbM0_1.view.readAt (Elt Ideal) (Rect.unit (s := S16) (k0_off3 i) S1.size (k0_off3_inb i)).toLoadRect xt1 (Shape.Idx.first (numel1_S1.symm ▸ Nat.one_pos)))) (k0_hw3 : k0_chk3 (tbM0_2.view.readAt (Elt Ideal) (Rect.unit (s := S16) (k0_off5 i) S1.size (k0_off5_inb i)).toLoadRect xt2 (Shape.Idx.first (numel1_S1.symm ▸ Nat.one_pos))))
    (p : Fin 16) (q5 : k0_off1 i = ![p.val]) (q6 : k0_off3 i = ![p.val]) (q7 : k0_off5 i = ![p.val])
    (n5 : Fin 24) (n6 n7 : Fin 10) (e5 : ((xt0 : S16.Idx → BitVec 32) (ix1 p)).toNat = n5.val)
    (e6 : ((xt1 : S16.Idx → BitVec 32) (ix1 p)).toNat = n6.val) (e7 : ((xt2 : S16.Idx → BitVec 32) (ix1 p)).toNat = n7.val)
    (r : Fin 2048) (d : Fin 416) :
    (out0_A_9 c i arg4 harg4 arg5 harg5 arg6 harg6 arg7 harg7 arg8 harg8 arg9 harg9 arg10 harg10 arg11 harg11 arg12 harg12 arg13 harg13 x0 x1 x2 x3 x4 x5 x6 x7 x8 xt0 xt1 xt2 k0_hw1 k0_hw2 k0_hw3 : S2048x416.Idx → Ideal .f32) (ix2 r d)
      = joined (α := Ideal .f32) (fun k => FloatOps.divf (FloatOps.subf (x0 (ix2 r k)) (x5 (ix2 0 k))) (x6 (ix2 0 k)))
        (fun k => x1 (ix2 r k)) (fun k => x2 (ix2 r k)) (fun k => x3 (ix2 r k)) (fun k => x4 (ix2 r k))
        (fun k => x7 (ix2 n5 k)) (fun k => x8 (ix2 n6 k)) (fun k => x8 (ix2 n7 k)) d := by
  frame_out
  refine (block_at _ _ _ _ _ _ _ _ r d).trans ?_
  refine joined_congr (fun k => block_features _ _ _ r k) (fun k => rfl) (fun k => rfl) (fun k => rfl) (fun k => rfl)
    (fun k => row_load x7 _ _ n5 ?_ k) (fun k => row_load x8 _ _ n6 ?_ k) (fun k => row_load x8 _ _ n7 ?_ k) d
  · exact offsets (word_load xt0 _ _ _ p q5) e5
  · exact offsets (word_load xt1 _ _ _ p q6) e6
  · exact offsets (word_load xt2 _ _ _ p q7) e7

end Cert.Value
-- ==== Proof.Value.Result.lean ====
/- The result as a function of the twelve arguments, entry by entry: the normalized features, the four groups of 32 copied
   columns, and the three rows looked up by the batch's indices. -/
module

public import proofs.«01_k».proof.Proof.Value.Joined
public import Idealize.ShloMosaic.PureOps.Ideal

@[expose] public section

noncomputable section

namespace Cert.Value

open Idealize.ShloMosaic

/-- Entry `(b, t, d)` of the result. -/
def result (x0 : Shape.Idx ⟨3, ![16, 2048, 256]⟩ → Ideal .f32) (x1 x2 x3 x4 : Shape.Idx ⟨3, ![16, 2048, 32]⟩ → Ideal .f32)
    (x5 x6 x7 : IVec ⟨1, ![16]⟩ 32) (x8 x9 : Shape.Idx ⟨1, ![256]⟩ → Ideal .f32)
    (x10 : Shape.Idx ⟨2, ![24, 16]⟩ → Ideal .f32) (x11 : Shape.Idx ⟨2, ![10, 8]⟩ → Ideal .f32)
    (h5 : ∀ i, (x5 i).toNat < 24) (h6 : ∀ i, (x6 i).toNat < 10) (h7 : ∀ i, (x7 i).toNat < 10)
    (b : Fin 16) (t : Fin 2048) : Fin 416 → Ideal .f32 :=
  joined
    (fun k => FloatOps.divf (FloatOps.subf (x0 (ix3 b t k)) (x8 (ix1 k))) (x9 (ix1 k)))
    (fun k => x1 (ix3 b t k)) (fun k => x2 (ix3 b t k)) (fun k => x3 (ix3 b t k)) (fun k => x4 (ix3 b t k))
    (fun k => x10 (ix2 ⟨(x5 (ix1 b)).toNat, h5 _⟩ k))
    (fun k => x11 (ix2 ⟨(x6 (ix1 b)).toNat, h6 _⟩ k))
    (fun k => x11 (ix2 ⟨(x7 (ix1 b)).toNat, h7 _⟩ k))

end Cert.Value
-- ==== Proof.Value.Places.lean ====
/- Where the launch's blocks lie: point `t`'s block of a row window starts at row `2048 * t`; the other windows' block is
   their whole array, at every point. -/
module

public import proofs.«01_k».proof.Proof.KernelIdealFrame.Whole
public import Idealize.ShloMosaic.Lib.Pointwise
public import Idealize.ShloMosaic.Lib.Pipeline.ValueKit
public import Idealize.ShloMosaic.PureOps.Ideal

@[expose] public section

noncomputable section

namespace Cert.Value

open Idealize.ShloMosaic Idealize.ShloMosaic.TcCoe
open Cert.KernelIdeal Cert.KernelIdeal.Gen Cert.KernelIdeal.Own

variable (m : (ℓ : Loc nD τ sig) → Buf (Elt Ideal) ℓ)

/-- There are 16 points. -/
theorem point_lt : ∀ t : Fin grid0.N, t.val < 16 := by decide +kernel

/-- A row window's block index along the rows is the point. (All the row windows have this index map.) -/
theorem row_block : ∀ t : Fin grid0.N, cc0_transform_0 (grid0.coords t) 0 = t.val := by decide +kernel

/-- An index of the run of rows, from its coordinates: the block's start plus the row in the block, and the column. -/
theorem row_lands {w : Nat} {i : (⟨2, ![32768, w]⟩ : Shape).Idx} (t : Fin grid0.N) (r : Fin 2048) (k : Fin w) (n : Fin 32768)
    (hn : n.val = t.val * 2048 + r.val) (h0 : (i 0).val = cc0_transform_0 (grid0.coords t) 0 * 2048 + 1 * r.val)
    (h1 : (i 1).val = 0 * w + 1 * k.val) : i = ix2 n k := by
  have e := row_block t
  funext a
  apply Fin.ext
  match a with
  | ⟨0, _⟩ =>
    show (i 0).val = n.val
    rw [h0, e]
    omega
  | ⟨1, _⟩ =>
    show (i 1).val = k.val
    omega

/-- An index of an array that is one block, from its coordinates. -/
theorem whole_lands {s w : Nat} {i : (⟨2, ![s, w]⟩ : Shape).Idx} (r : Fin s) (k : Fin w)
    (h0 : (i 0).val = 0 * s + 1 * r.val) (h1 : (i 1).val = 0 * w + 1 * k.val) : i = ix2 r k := by
  funext a
  apply Fin.ext
  match a with
  | ⟨0, _⟩ =>
    show (i 0).val = r.val
    omega
  | ⟨1, _⟩ =>
    show (i 1).val = k.val
    omega

/-! Row `r` of point `t`'s block of a row window is row `2048 * t + r` of the window's array. -/

/-- Window 0: the features. -/
theorem place_0 (hO : Ok m) (t : Fin (cfgM m hO).N) (r : Fin 2048) (k : Fin 256) (n : Fin 32768) (hn : n.val = t.val * 2048 + r.val) :
    (((cfgM m hO).win 0).blk t).view.emb (ix2 r k) = (ix2 n k : S32768x256.Idx) :=
  row_lands t r k n hn rfl rfl

/-- Window 1: the second operand. -/
theorem place_1 (hO : Ok m) (t : Fin (cfgM m hO).N) (r : Fin 2048) (k : Fin 32) (n : Fin 32768) (hn : n.val = t.val * 2048 + r.val) :
    (((cfgM m hO).win 1).blk t).view.emb (ix2 r k) = (ix2 n k : S32768x32.Idx) :=
  row_lands t r k n hn rfl rfl

/-- Window 2: the third. -/
theorem place_2 (hO : Ok m) (t : Fin (cfgM m hO).N) (r : Fin 2048) (k : Fin 32) (n : Fin 32768) (hn : n.val = t.val * 2048 + r.val) :
    (((cfgM m hO).win 2).blk t).view.emb (ix2 r k) = (ix2 n k : S32768x32.Idx) :=
  row_lands t r k n hn rfl rfl

/-- Window 3: the fourth. -/
theorem place_3 (hO : Ok m) (t : Fin (cfgM m hO).N) (r : Fin 2048) (k : Fin 32) (n : Fin 32768) (hn : n.val = t.val * 2048 + r.val) :
    (((cfgM m hO).win 3).blk t).view.emb (ix2 r k) = (ix2 n k : S32768x32.Idx) :=
  row_lands t r k n hn rfl rfl

/-- Window 4: the fifth. -/
theorem place_4 (hO : Ok m) (t : Fin (cfgM m hO).N) (r : Fin 2048) (k : Fin 32) (n : Fin 32768) (hn : n.val = t.val * 2048 + r.val) :
    (((cfgM m hO).win 4).blk t).view.emb (ix2 r k) = (ix2 n k : S32768x32.Idx) :=
  row_lands t r k n hn rfl rfl

/-- Window 9: the result. -/
theorem place_9 (hO : Ok m) (t : Fin (cfgM m hO).N) (r : Fin 2048) (k : Fin 416) (n : Fin 32768) (hn : n.val = t.val * 2048 + r.val) :
    (((cfgM m hO).win 9).blk t).view.emb (ix2 r k) = (ix2 n k : S32768x416.Idx) :=
  row_lands t r k n hn rfl rfl

/-! The other input windows' block is the array. -/

/-- Window 5: the means. -/
theorem place_5 (hO : Ok m) (t : Fin (cfgM m hO).N) (r : Fin 1) (k : Fin 256) :
    (((cfgM m hO).win 5).blk t).view.emb (ix2 r k) = (ix2 r k : S1x256.Idx) :=
  whole_lands r k rfl rfl

/-- Window 6: the deviations. -/
theorem place_6 (hO : Ok m) (t : Fin (cfgM m hO).N) (r : Fin 1) (k : Fin 256) :
    (((cfgM m hO).win 6).blk t).view.emb (ix2 r k) = (ix2 r k : S1x256.Idx) :=
  whole_lands r k rfl rfl

/-- Window 7: the first table. -/
theorem place_7 (hO : Ok m) (t : Fin (cfgM m hO).N) (r : Fin 24) (k : Fin 16) :
    (((cfgM m hO).win 7).blk t).view.emb (ix2 r k) = (ix2 r k : S24x16.Idx) :=
  whole_lands r k rfl rfl

/-- Window 8: the second table. -/
theorem place_8 (hO : Ok m) (t : Fin (cfgM m hO).N) (r : Fin 10) (k : Fin 8) :
    (((cfgM m hO).win 8).blk t).view.emb (ix2 r k) = (ix2 r k : S10x8.Idx) :=
  whole_lands r k rfl rfl

/-- An index that a view places somewhere is one of the view's. -/
theorem mem_of_place {κ : Kind} {σ : RefSig} {sp : Space} {s : Shape} {e : EltTy} {v : View σ κ sp s e} {x : s.Idx} {i} (h : v.emb x = i) : i ∈ v.set :=
  h ▸ View.emb_mem_set v x

/-- Every row of the result lies in some point's block. -/
theorem covered (hO : Ok m) (i : S32768x416.Idx) : ∃ t : Fin (cfgM m hO).N,
    ((cfgM m hO).win 9).flush t = true ∧ (i : (((cfgM m hO).win 9).arr.view.loc ((0 : Dev nD) : Thread nD τ)).2.ty.Idx) ∈ (((cfgM m hO).win 9).blk t).view.set := by
  have hi : (i 0).val < 32768 := (i 0).isLt
  refine ⟨⟨(i 0).val / 2048, show (i 0).val / 2048 < 16 by omega⟩, flush0_9 (adm m hO) _, ?_⟩
  have e := place_9 m hO ⟨(i 0).val / 2048, show (i 0).val / 2048 < 16 by omega⟩ ⟨(i 0).val % 2048, by omega⟩ (i 1) (i 0) (by
    show (i 0).val = (i 0).val / 2048 * 2048 + (i 0).val % 2048
    omega)
  have h : i = (ix2 (i 0) (i 1) : S32768x416.Idx) := by
    funext a
    match a with
    | ⟨0, _⟩ => rfl
    | ⟨1, _⟩ => rfl
  exact mem_of_place (e.trans h.symm)

end Cert.Value
-- ==== Proof.Value.Entry.lean ====
/- What the launch finds in the arrays the reshapes before it fill, read at an index: the arguments' own entries. -/
module

public import proofs.«01_k».proof.Proof.KernelIdealFrame.Whole
public import Idealize.ShloMosaic.Lib.Pointwise
public import Idealize.ShloMosaic.Lib.Pipeline.ValueKit
public import Idealize.ShloMosaic.PureOps.Ideal
public import Idealize.ShloMosaic.Lib.Pipeline.Value

@[expose] public section

noncomputable section

namespace Cert.Value

open Idealize.ShloMosaic Idealize.ShloMosaic.TcCoe
open Cert.KernelIdeal Cert.KernelIdeal.Gen Cert.KernelIdeal.Own

/-- Sixteen planes of 2048 rows laid out as one run of rows: row `n` is row `t` of plane `b` when `n = 2048 * b + t`. -/
theorem flat_at {α : Type} {w : Nat} (x : (⟨3, ![16, 2048, w]⟩ : Shape).Idx → α)
    (h : (⟨3, ![16, 2048, w]⟩ : Shape).ShapeCasts ⟨2, ![32768, w]⟩) (b : Fin 16) (t : Fin 2048) (k : Fin w) (n : Fin 32768)
    (hn : n.val = b.val * 2048 + t.val) : shapeCast ⟨2, ![32768, w]⟩ x h (ix2 n k) = x (ix3 b t k) := by
  refine shapeCast_apply x h _ _ ?_
  rw [Shape.rowMajor_val_three, Shape.rowMajor_val_two]
  show (b.val * 2048 + t.val) * w + k.val = n.val * w + k.val
  rw [hn]

/-- The other way round: the run of rows cut into sixteen planes. -/
theorem planes_at {α : Type} {w : Nat} (x : (⟨2, ![32768, w]⟩ : Shape).Idx → α)
    (h : (⟨2, ![32768, w]⟩ : Shape).ShapeCasts ⟨3, ![16, 2048, w]⟩) (b : Fin 16) (t : Fin 2048) (k : Fin w) (n : Fin 32768)
    (hn : n.val = b.val * 2048 + t.val) : shapeCast ⟨3, ![16, 2048, w]⟩ x h (ix3 b t k) = x (ix2 n k) := by
  refine shapeCast_apply x h _ _ ?_
  rw [Shape.rowMajor_val_three, Shape.rowMajor_val_two]
  show n.val * w + k.val = (b.val * 2048 + t.val) * w + k.val
  rw [hn]

/-- A vector laid out as one row. -/
theorem row_at {α : Type} {w : Nat} (x : (⟨1, ![w]⟩ : Shape).Idx → α)
    (h : (⟨1, ![w]⟩ : Shape).ShapeCasts ⟨2, ![1, w]⟩) (k : Fin w) : shapeCast ⟨2, ![1, w]⟩ x h (ix2 0 k) = x (ix1 k) := by
  refine shapeCast_apply x h _ _ ?_
  rw [Shape.rowMajor_val_two, Shape.rowMajor_val_one]
  show k.val = 0 * w + k.val
  omega

variable (m : (ℓ : Loc nD τ sig) → Buf (Elt Ideal) ℓ) (c : Dev nD)

/-- The seven arrays are reshapes of the arguments. -/
theorem entries :
    V m c main_v0 = shapeCast S1x256 (m ((c : Thread nD τ).loc main_arg8)) shapeCasts_S256_S1x256
    ∧ V m c main_v1 = shapeCast S1x256 (m ((c : Thread nD τ).loc main_arg9)) shapeCasts_S256_S1x256
    ∧ V m c main_v2 = shapeCast S32768x256 (m ((c : Thread nD τ).loc main_arg0)) shapeCasts_S16x2048x256_S32768x256
    ∧ V m c main_v3 = shapeCast S32768x32 (m ((c : Thread nD τ).loc main_arg1)) shapeCasts_S16x2048x32_S32768x32
    ∧ V m c main_v4 = shapeCast S32768x32 (m ((c : Thread nD τ).loc main_arg2)) shapeCasts_S16x2048x32_S32768x32
    ∧ V m c main_v5 = shapeCast S32768x32 (m ((c : Thread nD τ).loc main_arg3)) shapeCasts_S16x2048x32_S32768x32
    ∧ V m c main_v6 = shapeCast S32768x32 (m ((c : Thread nD τ).loc main_arg4)) shapeCasts_S16x2048x32_S32768x32 := by
  refine ⟨?_, ?_, ?_, ?_, ?_, ?_, ?_⟩
  all_goals
    show StableHlo.after [hostOps0].flatten (fun b => m (c, b)) _ = _
    simp only [List.flatten_cons, List.flatten_nil, List.append_nil, hostOps0]
    after_results
    rfl

/-- Row `n` of `main_v2` is the argument's row `(b, t)`. -/
theorem entry_v2 (b : Fin 16) (t : Fin 2048) (k : Fin 256) (n : Fin 32768) (hn : n.val = b.val * 2048 + t.val) :
    (V m c main_v2 : S32768x256.Idx → _) (ix2 n k) = m ((c : Thread nD τ).loc main_arg0) (ix3 b t k) :=
  (congrFun (entries m c).2.2.1 _).trans (flat_at _ _ b t k n hn)

/-- Row `n` of `main_v3` is the argument's row `(b, t)`. -/
theorem entry_v3 (b : Fin 16) (t : Fin 2048) (k : Fin 32) (n : Fin 32768) (hn : n.val = b.val * 2048 + t.val) :
    (V m c main_v3 : S32768x32.Idx → _) (ix2 n k) = m ((c : Thread nD τ).loc main_arg1) (ix3 b t k) :=
  (congrFun (entries m c).2.2.2.1 _).trans (flat_at _ _ b t k n hn)

/-- Row `n` of `main_v4` is the argument's row `(b, t)`. -/
theorem entry_v4 (b : Fin 16) (t : Fin 2048) (k : Fin 32) (n : Fin 32768) (hn : n.val = b.val * 2048 + t.val) :
    (V m c main_v4 : S32768x32.Idx → _) (ix2 n k) = m ((c : Thread nD τ).loc main_arg2) (ix3 b t k) :=
  (congrFun (entries m c).2.2.2.2.1 _).trans (flat_at _ _ b t k n hn)

/-- Row `n` of `main_v5` is the argument's row `(b, t)`. -/
theorem entry_v5 (b : Fin 16) (t : Fin 2048) (k : Fin 32) (n : Fin 32768) (hn : n.val = b.val * 2048 + t.val) :
    (V m c main_v5 : S32768x32.Idx → _) (ix2 n k) = m ((c : Thread nD τ).loc main_arg3) (ix3 b t k) :=
  (congrFun (entries m c).2.2.2.2.2.1 _).trans (flat_at _ _ b t k n hn)

/-- Row `n` of `main_v6` is the argument's row `(b, t)`. -/
theorem entry_v6 (b : Fin 16) (t : Fin 2048) (k : Fin 32) (n : Fin 32768) (hn : n.val = b.val * 2048 + t.val) :
    (V m c main_v6 : S32768x32.Idx → _) (ix2 n k) = m ((c : Thread nD τ).loc main_arg4) (ix3 b t k) :=
  (congrFun (entries m c).2.2.2.2.2.2 _).trans (flat_at _ _ b t k n hn)

/-- `main_v0` is the argument laid out as one row. -/
theorem entry_v0 (k : Fin 256) :
    (V m c main_v0 : S1x256.Idx → _) (ix2 0 k) = m ((c : Thread nD τ).loc main_arg8) (ix1 k) :=
  (congrFun (entries m c).1 _).trans (row_at _ _ k)

/-- `main_v1` is the argument laid out as one row. -/
theorem entry_v1 (k : Fin 256) :
    (V m c main_v1 : S1x256.Idx → _) (ix2 0 k) = m ((c : Thread nD τ).loc main_arg9) (ix1 k) :=
  (congrFun (entries m c).2.1 _).trans (row_at _ _ k)

end Cert.Value
-- ==== Proof.Value.Inputs.lean ====
/- What the blocks hold that the launch copies in, read at an index: entries of the arguments. -/
module

public import proofs.«01_k».proof.Proof.Value.Places
public import proofs.«01_k».proof.Proof.Value.Entry

@[expose] public section

noncomputable section

namespace Cert.Value

open Idealize.ShloMosaic Idealize.ShloMosaic.TcCoe
open Cert.KernelIdeal Cert.KernelIdeal.Gen Cert.KernelIdeal.Own

variable (m : (ℓ : Loc nD τ sig) → Buf (Elt Ideal) ℓ) (hO : Ok m) (c : Dev nD) (t : Fin (cfgM m hO).N)

/-- A block read where it is placed: if the block's index `y` lies at `i` of the array, it holds the array's entry there. -/
theorem block_read (w : Fin (cfgM m hO).W) (y) (i) (h : (((cfgM m hO).win w).blk t).view.emb y = i) :
    iblk m hO c w t y = cast (congrArg (Elt Ideal) (((cfgM m hO).win w).blk t).view.elt_eq) (V m c (Pipeline.arrRef spec0 w) i) := by
  subst h
  rfl

/-- The row of the whole run of rows that is row `r` of point `t`'s block. -/
def row (t : Fin 16) (r : Fin 2048) : Fin 32768 := ⟨t.val * 2048 + r.val, by omega⟩

/-- Window 0's block at `(r, k)`. -/
theorem input_0 (r : Fin 2048) (k : Fin 256) :
    (iblk m hO c 0 t : S2048x256.Idx → Ideal .f32) (ix2 r k) = m ((c : Thread nD τ).loc main_arg0) (ix3 ⟨t.val, point_lt t⟩ r k) :=
  (block_read m hO c t 0 _ _ (place_0 m hO t r k (row ⟨t.val, point_lt t⟩ r) rfl)).trans (entry_v2 m c _ r k _ rfl)

/-- Window 1's block at `(r, k)`. -/
theorem input_1 (r : Fin 2048) (k : Fin 32) :
    (iblk m hO c 1 t : S2048x32.Idx → Ideal .f32) (ix2 r k) = m ((c : Thread nD τ).loc main_arg1) (ix3 ⟨t.val, point_lt t⟩ r k) :=
  (block_read m hO c t 1 _ _ (place_1 m hO t r k (row ⟨t.val, point_lt t⟩ r) rfl)).trans (entry_v3 m c _ r k _ rfl)

/-- Window 2's block at `(r, k)`. -/
theorem input_2 (r : Fin 2048) (k : Fin 32) :
    (iblk m hO c 2 t : S2048x32.Idx → Ideal .f32) (ix2 r k) = m ((c : Thread nD τ).loc main_arg2) (ix3 ⟨t.val, point_lt t⟩ r k) :=
  (block_read m hO c t 2 _ _ (place_2 m hO t r k (row ⟨t.val, point_lt t⟩ r) rfl)).trans (entry_v4 m c _ r k _ rfl)

/-- Window 3's block at `(r, k)`. -/
theorem input_3 (r : Fin 2048) (k : Fin 32) :
    (iblk m hO c 3 t : S2048x32.Idx → Ideal .f32) (ix2 r k) = m ((c : Thread nD τ).loc main_arg3) (ix3 ⟨t.val, point_lt t⟩ r k) :=
  (block_read m hO c t 3 _ _ (place_3 m hO t r k (row ⟨t.val, point_lt t⟩ r) rfl)).trans (entry_v5 m c _ r k _ rfl)

/-- Window 4's block at `(r, k)`. -/
theorem input_4 (r : Fin 2048) (k : Fin 32) :
    (iblk m hO c 4 t : S2048x32.Idx → Ideal .f32) (ix2 r k) = m ((c : Thread nD τ).loc main_arg4) (ix3 ⟨t.val, point_lt t⟩ r k) :=
  (block_read m hO c t 4 _ _ (place_4 m hO t r k (row ⟨t.val, point_lt t⟩ r) rfl)).trans (entry_v6 m c _ r k _ rfl)

/-- Window 5's block at `k`. -/
theorem input_5 (k : Fin 256) :
    (iblk m hO c 5 t : S1x256.Idx → Ideal .f32) (ix2 0 k) = m ((c : Thread nD τ).loc main_arg8) (ix1 k) :=
  (block_read m hO c t 5 _ _ (place_5 m hO t 0 k)).trans (entry_v0 m c k)

/-- Window 6's block at `k`. -/
theorem input_6 (k : Fin 256) :
    (iblk m hO c 6 t : S1x256.Idx → Ideal .f32) (ix2 0 k) = m ((c : Thread nD τ).loc main_arg9) (ix1 k) :=
  (block_read m hO c t 6 _ _ (place_6 m hO t 0 k)).trans (entry_v1 m c k)

/-- Window 7's block at `(r, k)`. -/
theorem input_7 (r : Fin 24) (k : Fin 16) :
    (iblk m hO c 7 t : S24x16.Idx → Ideal .f32) (ix2 r k) = m ((c : Thread nD τ).loc main_arg10) (ix2 r k) :=
  (block_read m hO c t 7 _ _ (place_7 m hO t r k)).trans (congrFun (V_main_arg10 m c) _)

/-- Window 8's block at `(r, k)`. -/
theorem input_8 (r : Fin 10) (k : Fin 8) :
    (iblk m hO c 8 t : S10x8.Idx → Ideal .f32) (ix2 r k) = m ((c : Thread nD τ).loc main_arg11) (ix2 r k) :=
  (block_read m hO c t 8 _ _ (place_8 m hO t r k)).trans (congrFun (V_main_arg11 m c) _)

end Cert.Value
-- ==== Proof.Value.Array.lean ====
/- What the launch leaves in its result array, and what the reshape after it makes of it: entry `(b, t, d)` of the program's
   result is `result` of the arguments. -/
module

public import proofs.«01_k».proof.Proof.Value.Left
public import proofs.«01_k».proof.Proof.Value.Result
public import proofs.«01_k».proof.Proof.Value.Inputs
public import Idealize.ShloMosaic.Lib.Pipeline.ValueKit

@[expose] public section

noncomputable section

namespace Cert.Value

open Idealize.ShloMosaic Idealize.ShloMosaic.TcCoe Idealize.ShloMosaic.Tactic
open Cert.KernelIdeal Cert.KernelIdeal.Gen Cert.KernelIdeal.Own

variable (m : (ℓ : Loc nD τ sig) → Buf (Elt Ideal) ℓ) (c : Dev nD)

/-- The index arrays lie inside their tables. -/
structure Inside : Prop where
  /-- The first table has 24 rows. -/
  first : ∀ i, (m ((c.tc : Thread nD τ).loc main_arg5) i).toNat < 24
  /-- The second has 10. -/
  second : ∀ i, (m ((c.tc : Thread nD τ).loc main_arg6) i).toNat < 10
  /-- The third index array reads the second table too. -/
  third : ∀ i, (m ((c.tc : Thread nD τ).loc main_arg7) i).toNat < 10

/-- `result` of what the arguments hold. -/
def expected (h : Inside m c) (b : Fin 16) (t : Fin 2048) (d : Fin 416) : Ideal .f32 :=
  result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11)) h.first h.second h.third b t d

variable (hO : Ok m) (hH : Hyps m hO)

/-- The block that point `t` leaves, at row `r` and column `d`. -/
theorem stored (h : Inside m c) (t : Fin (cfgM m hO).N) (r : Fin 2048) (d : Fin 416) :
    (outsAt0 m hO hH c t : S2048x416.Idx → Ideal .f32) (ix2 r d) = expected m c h ⟨t.val, point_lt t⟩ r d := by
  have e5 : tbl m 0 = m ((c.tc : Thread nD τ).loc main_arg5) := (V_pre m c 0).symm.trans (V_main_arg5 m c)
  have e6 : tbl m 1 = m ((c.tc : Thread nD τ).loc main_arg6) := (V_pre m c 1).symm.trans (V_main_arg6 m c)
  have e7 : tbl m 2 = m ((c.tc : Thread nD τ).loc main_arg7) := (V_pre m c 2).symm.trans (V_main_arg7 m c)
  unfold outsAt0
  refine (left_at c _ _ _ _ _ _ _ _ _ _ _ _ _ _ _ _ _ _ _ _ _ _ _ _ _ _ _ _ _ _ _ _ _ _ _ _ ⟨t.val, point_lt t⟩ (word_place_5 t) (word_place_6 t) (word_place_7 t)
    ⟨_, h.first (ix1 ⟨t.val, point_lt t⟩)⟩ ⟨_, h.second (ix1 ⟨t.val, point_lt t⟩)⟩ ⟨_, h.third (ix1 ⟨t.val, point_lt t⟩)⟩
    ?_ ?_ ?_ r d).trans ?_
  · exact congrArg BitVec.toNat (congrFun e5 _)
  · exact congrArg BitVec.toNat (congrFun e6 _)
  · exact congrArg BitVec.toNat (congrFun e7 _)
  · unfold expected result
    refine joined_congr (fun k => ?_) (fun k => input_1 m hO c t r k) (fun k => input_2 m hO c t r k)
      (fun k => input_3 m hO c t r k) (fun k => input_4 m hO c t r k) (fun k => input_7 m hO c t _ k)
      (fun k => input_8 m hO c t _ k) (fun k => input_8 m hO c t _ k) d
    exact congrArg₂ FloatOps.divf (congrArg₂ FloatOps.subf (input_0 m hO c t r k) (input_5 m hO c t k)) (input_6 m hO c t k)

/-- The launch's result array: row `n` is row `n % 2048` of plane `n / 2048`. -/
def rows (h : Inside m c) (i : S32768x416.Idx) : Ideal .f32 :=
  expected m c h ⟨(i 0).val / 2048, by have : (i 0).val < 32768 := (i 0).isLt; omega⟩ ⟨(i 0).val % 2048, by omega⟩ (i 1)

/-- Row `2048 * b + t` of it. -/
theorem rows_at (h : Inside m c) (b : Fin 16) (t : Fin 2048) (d : Fin 416) (n : Fin 32768) (hn : n.val = b.val * 2048 + t.val) :
    rows m c h (ix2 n d) = expected m c h b t d := by
  have hb : (⟨n.val / 2048, by omega⟩ : Fin 16) = b := Fin.ext (by show n.val / 2048 = b.val; omega)
  have ht : (⟨n.val % 2048, by omega⟩ : Fin 2048) = t := Fin.ext (by show n.val % 2048 = t.val; omega)
  show expected m c h ⟨n.val / 2048, _⟩ ⟨n.val % 2048, _⟩ d = _
  rw [hb, ht]

/-- What a point leaves is that array, placed. -/
theorem stored_rows (h : Inside m c) (t : Fin (cfgM m hO).N) (y : S2048x416.Idx) :
    (outsAt0 m hO hH c t : S2048x416.Idx → Ideal .f32) y = rows m c h ((((cfgM m hO).win 9).blk t).view.emb y) := by
  have e : y = ix2 (y 0) (y 1) := by
    funext a
    match a with
    | ⟨0, _⟩ => rfl
    | ⟨1, _⟩ => rfl
  rw [e]
  refine (stored m c hO hH h t (y 0) (y 1)).trans ?_
  refine ((congrArg (rows m c h) (place_9 m hO t (y 0) (y 1) (row ⟨t.val, point_lt t⟩ (y 0)) rfl)).trans ?_).symm
  exact rows_at m c h _ _ _ _ rfl

/-- The array that the launch leaves. -/
theorem array_eq (h : Inside m c) : (dats m hO hH 0 c).arrAt 9 (cfgM m hO).N = rows m c h := by
  refine (dats m hO hH 0 c).arrAt_eq_of_emb 9 _ ?_ ?_
  · intro t _ y
    blk_simp
    rw [after0_9]
    exact stored_rows m c hO hH h t y
  · intro i
    exact covered m hO i

/-- The program's result: the array cut into sixteen planes. -/
theorem tail_eq (h : Inside m c) (b : Fin 16) (t : Fin 2048) (d : Fin 416) :
    (Pipeline.afterTail pcfgs (fun _ => adm m hO) (dats m hO hH) 0 (V0 m) [hostOps1] c main_v8 : S16x2048x416.Idx → Ideal .f32) (ix3 b t d)
      = expected m c h b t d := by
  have e : Pipeline.afterTail pcfgs (fun _ => adm m hO) (dats m hO hH) 0 (V0 m) [hostOps1] c main_v8
      = shapeCast S16x2048x416 (rows m c h) shapeCasts_S32768x416_S16x2048x416 := by
    rw [← array_eq m c hO hH h]
    unfold Pipeline.afterTail
    simp only [List.flatten_cons, List.flatten_nil, List.append_nil, hostOps1]
    after_results
    exact congrArg (fun x => shapeCast S16x2048x416 x shapeCasts_S32768x416_S16x2048x416)
      (Pipeline.withArrays_arr spec0 (by decide) c (V0 m c) (fun w => (dats m hO hH 0 c).arrAt w (cfgM m hO).N) 9)
  rw [e]
  exact (planes_at _ _ b t d (row b t) rfl).trans (rows_at m c h b t d _ rfl)

end Cert.Value
-- ==== Proof.Value.Run.lean ====
/- The kernel's runs: each ends with the program's result holding `result` of the arguments, and with the arguments unchanged. -/
module

public import proofs.«01_k».proof.Proof.Value.Array
public import proofs.«01_k».proof.Proof.KernelIdealFrame.Sides

@[expose] public section

noncomputable section

namespace Cert.Value

open Idealize.ShloMosaic Idealize.ShloMosaic.TcCoe Idealize.SL.Sem
open Cert.KernelIdeal Cert.KernelIdeal.Gen Cert.KernelIdeal.Own

variable (m : (ℓ : Loc nD τ sig) → Buf (Elt Ideal) ℓ) (ρ : Dev nD → PrngReg)

/-- The expected result as an array. -/
def answer (h : ∀ c, Inside m c) (c : Dev nD) : Buf (Elt Ideal) ((c.tc : Thread nD τ).loc main_v8) :=
  fun i : S16x2048x416.Idx => expected m c (h c) (i 0) (i 1) (i 2)

/-- An index of the result, by its coordinates. -/
theorem index_eta (i : S16x2048x416.Idx) : i = ix3 (i 0) (i 1) (i 2) := by
  funext a
  match a with
  | ⟨0, _⟩ => rfl
  | ⟨1, _⟩ => rfl
  | ⟨2, _⟩ => rfl

/-- Indices inside the tables meet what the body assumes. -/
theorem assumed (h : ∀ c, Inside m c) : Hyps m (ok m) := hyps m (h 0).first (h 0).second (h 0).third

/-- What is left in the program's result. -/
theorem answer_eq (h : ∀ c, Inside m c) (c : Dev nD) :
    Pipeline.afterTail pcfgs (fun _ => adm m (ok m)) (dats m (ok m) (assumed m h)) 0 (V0 m) [hostOps1] c main_v8 = answer m h c := by
  refine funext fun (i : S16x2048x416.Idx) => ?_
  rw [index_eta i]
  exact tail_eq m c (ok m) (assumed m h) (h c) (i 0) (i 1) (i 2)

/-- The value of a run. -/
theorem run_value (h : ∀ c, Inside m c) : θ_run defs (onTc (τ := τ) (main (F := Ideal))) ⟨m, fun _ => 0, ρ⟩
    (fun r => ∀ c : Dev nD, r.2.mem ((c.tc : Thread nD τ).loc main_v8) = answer m h c) :=
  (θ_run defs _ _).mono (fun _ hr c => ((hr c).2 main_v8 (by decide : main_v8 ∈ Pipeline.restRefs sig spec0)).trans (answer_eq m h c))
    (run_main m ρ (ok m) (assumed m h))

end Cert.Value
-- ==== Proof.Value.Take.lean ====
/- A row lookup `table[idx]` as the reference writes it: a negative index is first moved up by the table's extent, the rows
   are gathered, and a row whose index lies outside the table is replaced by a filler. Where every index, read unsigned, is
   below the table's extent, none of this shows: row `b` of the result is the table's row number `idx[b]`. -/
module

public import Idealize.ShloMosaic.Lib.Routing.Ops
public import Idealize.ShloMosaic.Lib.DynamicIndex
public import Idealize.ShloMosaic.Lib.ReduceAll
public import Idealize.ShloMosaic.Lib.Pointwise

@[expose] public section

namespace Cert.Value

open Idealize.ShloMosaic

/-- A word below `n < 2 ^ 31` unsigned is not negative read signed. -/
theorem signed_nonneg {n : Nat} (hn : n < 2 ^ 31) {x : BitVec 32} (h : x.toNat < n) : 0 ≤ x.toInt := by
  rw [BitVec.toInt_eq_toNat_cond]; split <;> omega

/-- Moving negative indices up by the extent leaves an index that is inside the table alone. -/
theorem moved_up {n : Nat} (hn : n < 2 ^ 31) (x ext : IVec ⟨1, ![16]⟩ 32) (hx : ∀ i, (x i).toNat < n)
    (h0 : Shape.BroadcastsInDim ⟨0, ![]⟩ ⟨1, ![16]⟩ (![] : Fin 0 → Fin 1)) :
    select (cmpi .slt x (broadcastInDim ⟨1, ![16]⟩ ![] h0 (constantI ⟨0, ![]⟩ 32 0#32))) (addi x ext) x = x :=
  funext fun j => select_slt_zero_of_nonneg x _ x j (signed_nonneg hn (hx j))

/-- The test `0 ≤ x ∧ x ≤ n - 1`, signed, of a word below `n`. -/
theorem inside_test {n : Nat} (hn : n < 2 ^ 31) {x : BitVec 32} (h : x.toNat < n) :
    IntOp.andi (IntOp.cmpi .sge x 0#32) (IntOp.cmpi .sle x (BitVec.ofNat 32 (n - 1))) = 1#1 := by
  have hm : (n - 1) % 2 ^ 32 = n - 1 := Nat.mod_eq_of_lt (by omega)
  have e0 : (0#32).sle x = true := by
    simp only [BitVec.sle, decide_eq_true_eq, BitVec.toInt_zero]; exact signed_nonneg hn h
  have e1 : x.sle (BitVec.ofNat 32 (n - 1)) = true := by
    simp only [BitVec.sle, decide_eq_true_eq, BitVec.toInt_eq_toNat_cond, BitVec.toNat_ofNat, hm]
    split <;> split <;> omega
  show BitVec.ofBool ((0#32).sle x) &&& BitVec.ofBool (x.sle (BitVec.ofNat 32 (n - 1))) = 1#1
  rw [e0, e1]; rfl

/-- The guarded lookup at `(b, k)`: the column `w` holds the indices, and each of them is a row of the table. -/
theorem lookup_at {α : Type} {n w : Nat} (hn : n < 2 ^ 31)
    (d : GatherDims ⟨2, ![n, w]⟩ ⟨2, ![16, 1]⟩ ⟨2, ![16, w]⟩) (hoff : d.offsetDims = [1]) (hcoll : d.collapsedSliceDims = [0])
    (hob : d.operandBatchingDims = []) (hsim : d.startIndexMap = [0]) (hivd : d.indexVectorDim = 1)
    (table : Shape.Idx ⟨2, ![n, w]⟩ → α) (filler : Shape.Idx ⟨2, ![16, w]⟩ → α) (x : IVec ⟨1, ![16]⟩ 32)
    (hx : ∀ i, (x i).toNat < n) (zeros tops : IVec ⟨2, ![16, 1]⟩ 32)
    (hz : ∀ i, zeros i = 0#32) (ht : ∀ i, tops i = BitVec.ofNat 32 (n - 1))
    (hc : Shape.BroadcastsInDim ⟨1, ![16]⟩ ⟨2, ![16, 1]⟩ (![0] : Fin 1 → Fin 2))
    (hm : Shape.BroadcastsInDim ⟨1, ![16]⟩ ⟨2, ![16, w]⟩ (![0] : Fin 1 → Fin 2))
    (hr : Shape.ReducesTo ⟨2, ![16, 1]⟩ [1] ⟨1, ![16]⟩) (hs : 0 < Shape.numel ⟨0, ![]⟩) (b : Fin 16) (k : Fin w) :
    select (broadcastInDim ⟨2, ![16, w]⟩ ![0] hm
        (Host.reduce IntOp.andi (andi (cmpi .sge (broadcastInDim ⟨2, ![16, 1]⟩ ![0] hc x) zeros) (cmpi .sle (broadcastInDim ⟨2, ![16, 1]⟩ ![0] hc x) tops))
          (constantI ⟨0, ![]⟩ 1 1#1) hr hs))
      (Host.gather d table (broadcastInDim ⟨2, ![16, 1]⟩ ![0] hc x)) filler (ix2 b k)
      = table (ix2 ⟨(x (ix1 b)).toNat, hx _⟩ k) := by
  have hmask : ∀ j, Host.reduce IntOp.andi (andi (cmpi .sge (broadcastInDim ⟨2, ![16, 1]⟩ ![0] hc x) zeros)
      (cmpi .sle (broadcastInDim ⟨2, ![16, 1]⟩ ![0] hc x) tops)) (constantI ⟨0, ![]⟩ 1 1#1) hr hs j = 1#1 := fun j =>
    Host.reduce_andi_one _ _ _ _ j rfl fun i => by
      show IntOp.andi (IntOp.cmpi .sge _ (zeros i)) (IntOp.cmpi .sle _ (tops i)) = 1#1
      rw [hz, ht]
      exact inside_test hn (hx _)
  have hg := Routing.gather_row d hoff hcoll hob hsim hivd table (broadcastInDim ⟨2, ![16, 1]⟩ ![0] hc x) b k
    ⟨(x (ix1 b)).toNat, hx _⟩ (by
      show broadcastInDim ⟨2, ![16, 1]⟩ ![0] hc x (ix2 b (0 : Fin 1)) = _
      pointwise
      simp) hn
  show Scalar.select _ _ _ = _
  exact (if_pos (hmask _)).trans hg

end Cert.Value
-- ==== Proof.Value.Reference.lean ====
/- What the reference computes: the term its run leaves in the result, read at an index, is `result` of its arguments when
   the indices lie inside their tables. -/
module

public import proofs.«01_k».proof.Proof.Value.Result
public import proofs.«01_k».proof.Proof.Value.Take
public import proofs.«01_k».proof.Proof.Gen.ReferenceIdeal.Run

@[expose] public section

noncomputable section

namespace Cert.Value

open Idealize.ShloMosaic Idealize.ShloMosaic.TcCoe
open Cert.ReferenceIdeal Cert.ReferenceIdeal.Gen

/-- The reference's normalized features at `(b, t, k)`. -/
theorem features_at (x0 : FVec Ideal S16x2048x256 .f32) (x8 x9 : FVec Ideal S256 .f32) (b : Fin 16) (t : Fin 2048) (k : Fin 256) :
    Host.divf (subf x0 (broadcastInDim S16x2048x256 ![0, 1, 2] bcast_S1x1x256_S16x2048x256_0_1_2
        (broadcastInDim S1x1x256 ![2] bcast_S256_S1x1x256_2 x8)))
      (broadcastInDim S16x2048x256 ![0, 1, 2] bcast_S1x1x256_S16x2048x256_0_1_2
        (broadcastInDim S1x1x256 ![2] bcast_S256_S1x1x256_2 x9)) (ix3 b t k)
      = FloatOps.divf (FloatOps.subf (x0 (ix3 b t k)) (x8 (ix1 k))) (x9 (ix1 k)) := by
  pointwise

/-- A row laid along the 2048 positions reads the row, whatever the position (16 columns). -/
theorem spread_at_16 (x : FVec Ideal S16x16 .f32) (b : Fin 16) (t : Fin 2048) (k : Fin 16) :
    broadcastInDim S16x2048x16 ![0, 1, 2] bcast_S16x1x16_S16x2048x16_0_1_2
      (broadcastInDim S16x1x16 ![0, 2] bcast_S16x16_S16x1x16_0_2 x) (ix3 b t k) = x (ix2 b k) := by
  pointwise

/-- The same, 8 columns. -/
theorem spread_at_8 (x : FVec Ideal S16x8 .f32) (b : Fin 16) (t : Fin 2048) (k : Fin 8) :
    broadcastInDim S16x2048x8 ![0, 1, 2] bcast_S16x1x8_S16x2048x8_0_1_2
      (broadcastInDim S16x1x8 ![0, 2] bcast_S16x8_S16x1x8_0_2 x) (ix3 b t k) = x (ix2 b k) := by
  pointwise

/-- The reference's result at `(b, t, d)`. -/
theorem reference_at (m : (ℓ : Loc nD τ sig) → Buf (Elt Ideal) ℓ) (c : Dev nD)
    (h5 : ∀ i, (m ((c.tc : Thread nD τ).loc main_arg5) i).toNat < 24)
    (h6 : ∀ i, (m ((c.tc : Thread nD τ).loc main_arg6) i).toNat < 10)
    (h7 : ∀ i, (m ((c.tc : Thread nD τ).loc main_arg7) i).toNat < 10) (b : Fin 16) (t : Fin 2048) (d : Fin 416) :
    Cert.ReferenceIdeal.Value.res_out0 (F := Ideal) m c (ix3 b t d)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) h5 h6 h7 b t d := by
  unfold Cert.ReferenceIdeal.Value.res_out0 Cert.ReferenceIdeal.Value.res_main_v15
  refine (concat_planes _ _ _ _ _ _ _ _ _ b t d).trans ?_
  unfold result
  refine joined_congr (fun k => ?_) (fun k => rfl) (fun k => rfl) (fun k => rfl) (fun k => rfl)
    (fun k => ?_) (fun k => ?_) (fun k => ?_) d
  · exact features_at _ _ _ b t k
  · rw [spread_at_16, moved_up (by decide) _ _ h5]
    exact lookup_at (by decide) _ rfl rfl rfl rfl rfl _ _ _ h5 _ _ (fun _ => rfl) (fun _ => rfl) _ _ _ _ b k
  · rw [spread_at_8, moved_up (by decide) _ _ h6]
    exact lookup_at (by decide) _ rfl rfl rfl rfl rfl _ _ _ h6 _ _ (fun _ => rfl) (fun _ => rfl) _ _ _ _ b k
  · rw [spread_at_8, moved_up (by decide) _ _ h7]
    exact lookup_at (by decide) _ rfl rfl rfl rfl rfl _ _ _ h7 _ _ (fun _ => rfl) (fun _ => rfl) _ _ _ _ b k

end Cert.Value
-- ==== Proof.Value.Equation.lean ====
/- The equation: from arguments that agree, and indices inside their tables, the reference's result is the kernel's. -/
module

public import proofs.«01_k».proof.Proof.Value.Run
public import proofs.«01_k».proof.Proof.Value.Reference

@[expose] public section

noncomputable section

namespace Cert.Value

open Idealize.ShloMosaic Idealize.ShloMosaic.TcCoe Idealize.SL.Sem

/-- Equal arguments have equal results. -/
theorem result_congr {x0 y0 : Shape.Idx ⟨3, ![16, 2048, 256]⟩ → Ideal .f32}
    {x1 y1 x2 y2 x3 y3 x4 y4 : Shape.Idx ⟨3, ![16, 2048, 32]⟩ → Ideal .f32}
    {x5 y5 x6 y6 x7 y7 : IVec ⟨1, ![16]⟩ 32} {x8 y8 x9 y9 : Shape.Idx ⟨1, ![256]⟩ → Ideal .f32}
    {x10 y10 : Shape.Idx ⟨2, ![24, 16]⟩ → Ideal .f32} {x11 y11 : Shape.Idx ⟨2, ![10, 8]⟩ → Ideal .f32}
    (e0 : x0 = y0) (e1 : x1 = y1) (e2 : x2 = y2) (e3 : x3 = y3) (e4 : x4 = y4) (e5 : x5 = y5) (e6 : x6 = y6) (e7 : x7 = y7)
    (e8 : x8 = y8) (e9 : x9 = y9) (e10 : x10 = y10) (e11 : x11 = y11)
    {h5 : ∀ i, (x5 i).toNat < 24} {h6 : ∀ i, (x6 i).toNat < 10} {h7 : ∀ i, (x7 i).toNat < 10}
    {g5 : ∀ i, (y5 i).toNat < 24} {g6 : ∀ i, (y6 i).toNat < 10} {g7 : ∀ i, (y7 i).toNat < 10}
    (b : Fin 16) (t : Fin 2048) (d : Fin 416) :
    result x0 x1 x2 x3 x4 x5 x6 x7 x8 x9 x10 x11 h5 h6 h7 b t d = result y0 y1 y2 y3 y4 y5 y6 y7 y8 y9 y10 y11 g5 g6 g7 b t d := by
  subst e0 e1 e2 e3 e4 e5 e6 e7 e8 e9 e10 e11
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments agree on device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- The reference's result is the kernel's. -/
theorem reference_answer (h : ∀ c, Inside m c) (c : Dev Cert.KernelIdeal.nD) (a : Agree m m' c) :
    Cert.ReferenceIdeal.Value.res_main_v15 (F := Ideal) m' c = answer m h c := by
  obtain ⟨e0, e1, e2, e3, e4, e5, e6, e7, e8, e9, e10, e11⟩ := a
  refine funext fun (i : Cert.KernelIdeal.S16x2048x416.Idx) => ?_
  rw [index_eta i]
  exact (reference_at m' c (fun j => lt_of_eq_of_lt (congrArg BitVec.toNat (congrFun e5 j)) ((h c).first j))
    (fun j => lt_of_eq_of_lt (congrArg BitVec.toNat (congrFun e6 j)) ((h c).second j))
    (fun j => lt_of_eq_of_lt (congrArg BitVec.toNat (congrFun e7 j)) ((h c).third j)) (i 0) (i 1) (i 2)).trans
    (result_congr (g5 := (h c).first) (g6 := (h c).second) (g7 := (h c).third) e0 e1 e2 e3 e4 e5 e6 e7 e8 e9 e10 e11 (i 0) (i 1) (i 2))

end Cert.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_tables
public import proofs.«01_k».proof.Proof.KernelFrame.Whole
public import proofs.«01_k».proof.Proof.KernelFrame.Sides
public import proofs.«01_k».proof.Proof.KernelIdealFrame.Whole
public import proofs.«01_k».proof.Proof.KernelIdealFrame.Sides
public import proofs.«01_k».proof.Proof.Bounds
public import proofs.«01_k».proof.Proof.Value.Run
public import proofs.«01_k».proof.Proof.Value.Equation
public import Idealize.ShloMosaic.Adequacy
public import Idealize.ShloMosaic.Init

@[expose] public section

noncomputable section

namespace Cert.Proof

open Idealize.ShloMosaic Idealize.SL.Sem

/-- The kernel as printed: from indices inside their tables it terminates without fault, its arguments unchanged and its
    counters at zero. -/
theorem kernel_frame : Cert.quiescent_Kernel (hKernel := Cert.Kernel.Gen.facts) (hPre_in_tables := Cert.Pre_in_tables.Gen.facts) :=
  fun m g hp =>
    have b := Cert.Bounds.of_pre (hp 0)
    Cert.Kernel.Own.frame m g (Cert.Kernel.Own.ok m) (Cert.Kernel.Own.hyps m b.1 b.2.1 b.2.2)

/-- The precondition of the ideal kernel bounds its index arrays. -/
theorem inside_of_pre (m : (ℓ : Loc Cert.KernelIdeal.nD Cert.KernelIdeal.τ Cert.KernelIdeal.sig) → Buf (Elt Ideal) ℓ)
    (hp : Cert.Pre_KernelIdeal (hPre_in_tables := Cert.Pre_in_tables.Gen.facts) m) (c : Dev Cert.KernelIdeal.nD) :
    Cert.Value.Inside m c :=
  have b := Cert.Bounds.of_pre (hp c)
  ⟨b.1, b.2.1, b.2.2⟩

/-- The same of the ideal kernel. -/
theorem ideal_frame :
    Cert.quiescent_KernelIdeal (hKernelIdeal := Cert.KernelIdeal.Gen.facts) (hPre_in_tables := Cert.Pre_in_tables.Gen.facts) :=
  fun m g hp => Cert.KernelIdeal.Own.frame m g (Cert.KernelIdeal.Own.ok m) (Cert.Value.assumed m (inside_of_pre m hp))

/-- The same of the reference, from any arguments. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- Kernel and reference compute the same function. -/
theorem same_function : Cert.algebraic_KernelIdeal_ReferenceIdeal (hKernelIdeal := Cert.KernelIdeal.Gen.facts)
    (hReferenceIdeal := Cert.ReferenceIdeal.Gen.facts) (hPre_in_tables := Cert.Pre_in_tables.Gen.facts) :=
  fun m g m' g' hp ha => by
    have h := inside_of_pre m hp
    refine ⟨Cert.Value.answer m h, ?_, ?_⟩
    · exact (θ_run _ _ _).mono (fun r hr c => ⟨hr.1 c, hr.2 c⟩)
        (θ_run_and (Cert.Value.run_value m g h)
          (Cert.KernelIdeal.Own.unchanged m g (Cert.KernelIdeal.Own.ok m) (Cert.Value.assumed m h)))
    · exact (θ_run _ _ _).mono (fun r hr c => ⟨(hr c).1.trans (Cert.Value.reference_answer m m' h c (ha c)), (hr c).2⟩)
        (Cert.ReferenceIdeal.Value.run m' g')

/-- Everything claimed. -/
theorem claim : Cert.Claim :=
  ⟨Cert.Kernel.Gen.facts, Cert.KernelIdeal.Gen.facts, Cert.ReferenceIdeal.Gen.facts, Cert.Pre_in_tables.Gen.facts,
    kernel_frame, ideal_frame, reference_frame, fun m g _ => reference_frame m g trivial, trivial, same_function⟩

end Cert.Proof

end
